-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_no_ties [hPre_finite_no_ties : Cert.Pre_finite_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_finite_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_no_ties [hPre_finite_no_ties : Cert.Pre_finite_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_finite_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_no_ties [hKernelIdeal : Cert.KernelIdeal.Facts] [hPre_finite_no_ties : Cert.Pre_finite_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_no_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_no_ties [hReferenceIdeal : Cert.ReferenceIdeal.Facts] [hPre_finite_no_ties : Cert.Pre_finite_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_no_ties [hKernelIdeal : Cert.KernelIdeal.Facts] [hReferenceIdeal : Cert.ReferenceIdeal.Facts] [hPre_finite_no_ties : Cert.Pre_finite_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_no_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_no_ties : Cert.Pre_finite_no_ties.Facts),
    quiescent_Kernel (hKernel := hKernel)
    ∧ quiescent_KernelIdeal (hKernelIdeal := hKernelIdeal)
    ∧ quiescent_KernelIdeal_pre_finite_no_ties (hKernelIdeal := hKernelIdeal) (hPre_finite_no_ties := hPre_finite_no_ties)
    ∧ quiescent_ReferenceIdeal (hReferenceIdeal := hReferenceIdeal)
    ∧ quiescent_ReferenceIdeal_pre_finite_no_ties (hReferenceIdeal := hReferenceIdeal) (hPre_finite_no_ties := hPre_finite_no_ties)
    ∧ preserves_Kernel_KernelIdeal
    ∧ algebraic_KernelIdeal_ReferenceIdeal_pre_finite_no_ties (hKernelIdeal := hKernelIdeal) (hReferenceIdeal := hReferenceIdeal) (hPre_finite_no_ties := hPre_finite_no_ties)
-- ==== Pre_finite_no_ties.lean ====
abbrev S4x8192x3 : Shape := ⟨3, ![4, 8192, 3]⟩
abbrev S4x8192x64 : Shape := ⟨3, ![4, 8192, 64]⟩
abbrev S4x2048x3 : Shape := ⟨3, ![4, 2048, 3]⟩
abbrev S4x2048x128 : Shape := ⟨3, ![4, 2048, 128]⟩
abbrev S64x128 : Shape := ⟨2, ![64, 128]⟩
abbrev S64 : Shape := ⟨1, ![64]⟩
abbrev S64x64 : Shape := ⟨2, ![64, 64]⟩
abbrev S_ : Shape := ⟨0, ![]⟩
abbrev S4x8192 : Shape := ⟨2, ![4, 8192]⟩
abbrev S4x8192x1 : Shape := ⟨3, ![4, 8192, 1]⟩
abbrev S4x2048 : Shape := ⟨2, ![4, 2048]⟩
abbrev S4x1x2048 : Shape := ⟨3, ![4, 1, 2048]⟩
abbrev S4x8192x2048 : Shape := ⟨3, ![4, 8192, 2048]⟩
abbrev S4x8192x4 : Shape := ⟨3, ![4, 8192, 4]⟩

class Facts : Prop where
  bcast_S_S4x8192x3 : S_.BroadcastsInDim S4x8192x3 (![] : Fin 0 → Fin S4x8192x3.rank)
  bcast_S_S4x8192x64 : S_.BroadcastsInDim S4x8192x64 (![] : Fin 0 → Fin S4x8192x64.rank)
  bcast_S_S4x2048x3 : S_.BroadcastsInDim S4x2048x3 (![] : Fin 0 → Fin S4x2048x3.rank)
  bcast_S_S4x2048x128 : S_.BroadcastsInDim S4x2048x128 (![] : Fin 0 → Fin S4x2048x128.rank)
  bcast_S_S64x128 : S_.BroadcastsInDim S64x128 (![] : Fin 0 → Fin S64x128.rank)
  bcast_S_S64 : S_.BroadcastsInDim S64 (![] : Fin 0 → Fin S64.rank)
  bcast_S_S64x64 : S_.BroadcastsInDim S64x64 (![] : Fin 0 → Fin S64x64.rank)
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  reducesTo_S4x2048x3_S4x2048_d2 : S4x2048x3.ReducesTo [2] S4x2048
  bcast_S4x2048_S4x1x2048_0_2 : S4x2048.BroadcastsInDim S4x1x2048 (![0, 2] : Fin 2 → Fin S4x1x2048.rank)
  bcast_S4x8192x1_S4x8192x2048_0_1_2 : S4x8192x1.BroadcastsInDim S4x8192x2048 (![0, 1, 2] : Fin 3 → Fin S4x8192x2048.rank)
  bcast_S4x1x2048_S4x8192x2048_0_1_2 : S4x1x2048.BroadcastsInDim S4x8192x2048 (![0, 1, 2] : Fin 3 → Fin S4x8192x2048.rank)
  bcast_S_S4x8192x2048 : S_.BroadcastsInDim S4x8192x2048 (![] : Fin 0 → Fin S4x8192x2048.rank)
  sliceFits_S4x8192x2048_S4x8192x4 : S4x8192x2048.Slices (fun _ => 0) S4x8192x4
  slices_S4x8192x4_S4x8192x3_0_0_0 : S4x8192x4.Slices ![0, 0, 0] S4x8192x3
  slices_S4x8192x4_S4x8192x3_0_0_1 : S4x8192x4.Slices ![0, 0, 1] S4x8192x3
  dot_S4x8192x3_S4x2048x3_S4x8192x2048_2_2_1_1_0_0_wf : DotDims.WF S4x8192x3 S4x2048x3 S4x8192x2048 [2] [2] [1] [1] [0] [0]

variable [Facts]

def dot_S4x8192x3_S4x2048x3_S4x8192x2048_2_2_1_1_0_0 : DotDims S4x8192x3 S4x2048x3 S4x8192x2048 where
  lhsContracting := [2]
  rhsContracting := [2]
  lhsNonContracting := [1]
  rhsNonContracting := [1]
  lhsBatch := [0]
  rhsBatch := [0]
  wf := dot_S4x8192x3_S4x2048x3_S4x8192x2048_2_2_1_1_0_0_wf
def fn_part2 {F : FTy → Type} [FloatOps F] (main_arg0 : FVec F S4x8192x3 .f32) (main_arg2 : FVec F S4x2048x3 .f32) (main_v2 : IVec S4x8192x3 1) (main_v5 : IVec S4x8192x64 1) (main_v8 : IVec S4x2048x3 1) (main_v11 : IVec S4x2048x128 1) (main_v14 : IVec S64x128 1) (main_v17 : IVec S64 1) (main_v20 : IVec S64 1) (main_v23 : IVec S64x64 1) (main_v26 : IVec S64 1) (main_v29 : IVec S64 1) (main_v32 : FVec F S4x8192x1 .f32) (main_v35 : FVec F S4x1x2048 .f32) : IVec S4x8192x3 1 × IVec S4x8192x64 1 × IVec S4x2048x3 1 × IVec S4x2048x128 1 × IVec S64x128 1 × IVec S64 1 × IVec S64 1 × IVec S64x64 1 × IVec S64 1 × IVec S64 1 × IVec S4x8192x3 1 :=
  let main_v36 : FVec F S4x8192x2048 .f32 := broadcastInDim S4x8192x2048 ![0, 1, 2] bcast_S4x8192x1_S4x8192x2048_0_1_2 main_v32
  let main_v37 : FVec F S4x8192x2048 .f32 := broadcastInDim S4x8192x2048 ![0, 1, 2] bcast_S4x1x2048_S4x8192x2048_0_1_2 main_v35
  let main_v38 : FVec F S4x8192x2048 .f32 := addf main_v36 main_v37
  let main_v39 : FVec F S4x8192x2048 .f32 := (fun l r => Host.dotGeneral dot_S4x8192x3_S4x2048x3_S4x8192x2048_2_2_1_1_0_0 none l r) main_arg0 main_arg2
  let main_cst_11 : FVec F S_ .f32 := constant S_ .f32 0x40000000#32
  let main_v40 : FVec F S4x8192x2048 .f32 := broadcastInDim S4x8192x2048 ![] bcast_S_S4x8192x2048 main_cst_11
  let main_v41 : FVec F S4x8192x2048 .f32 := mulf main_v40 main_v39
  let main_v42 : FVec F S4x8192x2048 .f32 := subf main_v38 main_v41
  let main_v43 : FVec F S4x8192x2048 .f32 := Host.negf main_v42
  let main_values : FVec F S4x8192x4 .f32 := (fun x => (Host.topK S4x8192x4 2 (FloatOps.cmpfTotal .gt) x sliceFits_S4x8192x2048_S4x8192x4).1) main_v43
  let main_indices : IVec S4x8192x4 32 := (fun x => (Host.topK S4x8192x4 2 (FloatOps.cmpfTotal .gt) x sliceFits_S4x8192x2048_S4x8192x4).2) main_v43
  let main_v44 : FVec F S4x8192x3 .f32 := (extractStridedSlice S4x8192x3 ![0, 0, 0] · slices_S4x8192x4_S4x8192x3_0_0_0) main_values
  let main_v45 : FVec F S4x8192x3 .f32 := (extractStridedSlice S4x8192x3 ![0, 0, 1] · slices_S4x8192x4_S4x8192x3_0_0_1) main_values
  let main_v46 : IVec S4x8192x3 1 := cmpf .ogt main_v44 main_v45
  (main_v2, main_v5, main_v8, main_v11, main_v14, main_v17, main_v20, main_v23, main_v26, main_v29, main_v46)

def fn_part1 {F : FTy → Type} [FloatOps F] (main_arg0 : FVec F S4x8192x3 .f32) (main_arg2 : FVec F S4x2048x3 .f32) (main_arg6 : FVec F S64 .f32) (main_arg8 : FVec F S64x64 .f32) (main_arg9 : FVec F S64 .f32) (main_arg10 : FVec F S64 .f32) (main_v2 : IVec S4x8192x3 1) (main_v5 : IVec S4x8192x64 1) (main_v8 : IVec S4x2048x3 1) (main_v11 : IVec S4x2048x128 1) (main_v14 : IVec S64x128 1) (main_v17 : IVec S64 1) : IVec S4x8192x3 1 × IVec S4x8192x64 1 × IVec S4x2048x3 1 × IVec S4x2048x128 1 × IVec S64x128 1 × IVec S64 1 × IVec S64 1 × IVec S64x64 1 × IVec S64 1 × IVec S64 1 × IVec S4x8192x3 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S64x64 .f32 := Host.absf main_arg8
  let main_cst_6 : FVec F S_ .f32 := constant S_ .f32 0x7F800000#32
  let main_v22 : FVec F S64x64 .f32 := broadcastInDim S64x64 ![] bcast_S_S64x64 main_cst_6
  let main_v23 : IVec S64x64 1 := cmpf .olt main_v21 main_v22
  let main_v24 : FVec F S64 .f32 := Host.absf main_arg9
  let main_cst_7 : FVec F S_ .f32 := constant S_ .f32 0x7F800000#32
  let main_v25 : FVec F S64 .f32 := broadcastInDim S64 ![] bcast_S_S64 main_cst_7
  let main_v26 : IVec S64 1 := cmpf .olt main_v24 main_v25
  let main_v27 : FVec F S64 .f32 := Host.absf main_arg10
  let main_cst_8 : FVec F S_ .f32 := constant S_ .f32 0x7F800000#32
  let main_v28 : FVec F S64 .f32 := broadcastInDim S64 ![] bcast_S_S64 main_cst_8
  let main_v29 : IVec S64 1 := cmpf .olt main_v27 main_v28
  let main_v30 : FVec F S4x8192x3 .f32 := mulf main_arg0 main_arg0
  let main_cst_9 : FVec F S_ .f32 := constant S_ .f32 0x00000000#32
  let main_v31 : FVec F S4x8192 .f32 := (fun x v => Host.reduceAdd x v reducesTo_S4x8192x3_S4x8192_d2 h_S_) main_v30 main_cst_9
  let main_v32 : FVec F S4x8192x1 .f32 := broadcastInDim S4x8192x1 ![0, 1] bcast_S4x8192_S4x8192x1_0_1 main_v31
  let main_v33 : FVec F S4x2048x3 .f32 := mulf main_arg2 main_arg2
  let main_cst_10 : FVec F S_ .f32 := constant S_ .f32 0x00000000#32
  let main_v34 : FVec F S4x2048 .f32 := (fun x v => Host.reduceAdd x v reducesTo_S4x2048x3_S4x2048_d2 h_S_) main_v33 main_cst_10
  let main_v35 : FVec F S4x1x2048 .f32 := broadcastInDim S4x1x2048 ![0, 2] bcast_S4x2048_S4x1x2048_0_2 main_v34
  fn_part2 (F := F) main_arg0 main_arg2 main_v2 main_v5 main_v8 main_v11 main_v14 main_v17 main_v20 main_v23 main_v26 main_v29 main_v32 main_v35

def fn {F : FTy → Type} [FloatOps F] (main_arg0 : FVec F S4x8192x3 .f32) (main_arg1 : FVec F S4x8192x64 .f32) (main_arg2 : FVec F S4x2048x3 .f32) (main_arg3 : FVec F S4x2048x128 .f32) (main_arg4 : FVec F S64x128 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) : IVec S4x8192x3 1 × IVec S4x8192x64 1 × IVec S4x2048x3 1 × IVec S4x2048x128 1 × IVec S64x128 1 × IVec S64 1 × IVec S64 1 × IVec S64x64 1 × IVec S64 1 × IVec S64 1 × IVec S4x8192x3 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_v3 : FVec F S4x8192x64 .f32 := Host.absf main_arg1
  let main_cst_0 : FVec F S_ .f32 := constant S_ .f32 0x7F800000#32
  let main_v4 : FVec F S4x8192x64 .f32 := broadcastInDim S4x8192x64 ![] bcast_S_S4x8192x64 main_cst_0
  let main_v5 : IVec S4x8192x64 1 := cmpf .olt main_v3 main_v4
  let main_v6 : FVec F S4x2048x3 .f32 := Host.absf main_arg2
  let main_cst_1 : FVec F S_ .f32 := constant S_ .f32 0x7F800000#32
  let main_v7 : FVec F S4x2048x3 .f32 := broadcastInDim S4x2048x3 ![] bcast_S_S4x2048x3 main_cst_1
  let main_v8 : IVec S4x2048x3 1 := cmpf .olt main_v6 main_v7
  let main_v9 : FVec F S4x2048x128 .f32 := Host.absf main_arg3
  let main_cst_2 : FVec F S_ .f32 := constant S_ .f32 0x7F800000#32
  let main_v10 : FVec F S4x2048x128 .f32 := broadcastInDim S4x2048x128 ![] bcast_S_S4x2048x128 main_cst_2
  let main_v11 : IVec S4x2048x128 1 := cmpf .olt main_v9 main_v10
  let main_v12 : FVec F S64x128 .f32 := Host.absf main_arg4
  let main_cst_3 : FVec F S_ .f32 := constant S_ .f32 0x7F800000#32
  let main_v13 : FVec F S64x128 .f32 := broadcastInDim S64x128 ![] bcast_S_S64x128 main_cst_3
  let main_v14 : IVec S64x128 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg0 main_arg2 main_arg6 main_arg8 main_arg9 main_arg10 main_v2 main_v5 main_v8 main_v11 main_v14 main_v17
-- ==== Kernel.lean ====
abbrev S4x8192x3 : Shape := ⟨3, ![4, 8192, 3]⟩
abbrev S4x8192x64 : Shape := ⟨3, ![4, 8192, 64]⟩
abbrev S4x2048x3 : Shape := ⟨3, ![4, 2048, 3]⟩
abbrev S4x2048x128 : Shape := ⟨3, ![4, 2048, 128]⟩
abbrev S64x128 : Shape := ⟨2, ![64, 128]⟩
abbrev S64 : Shape := ⟨1, ![64]⟩
abbrev S64x64 : Shape := ⟨2, ![64, 64]⟩
abbrev S8192x128 : Shape := ⟨2, ![8192, 128]⟩
abbrev S32768x64 : Shape := ⟨2, ![32768, 64]⟩
abbrev S1x64 : Shape := ⟨2, ![1, 64]⟩
abbrev S1024x128 : Shape := ⟨2, ![1024, 128]⟩
abbrev S4096x64 : Shape := ⟨2, ![4096, 64]⟩
abbrev S1x1024x3 : Shape := ⟨3, ![1, 1024, 3]⟩
abbrev S1x1024x64 : Shape := ⟨3, ![1, 1024, 64]⟩
abbrev S1x2048x3 : Shape := ⟨3, ![1, 2048, 3]⟩
abbrev S128x128 : Shape := ⟨2, ![128, 128]⟩
abbrev S1x128 : Shape := ⟨2, ![1, 128]⟩
abbrev S8192x64 : Shape := ⟨2, ![8192, 64]⟩
abbrev S128 : Shape := ⟨1, ![128]⟩
abbrev S1024x3 : Shape := ⟨2, ![1024, 3]⟩
abbrev S2048x3 : Shape := ⟨2, ![2048, 3]⟩
abbrev S1024 : Shape := ⟨1, ![1024]⟩
abbrev S1024x1 : Shape := ⟨2, ![1024, 1]⟩
abbrev S2048 : Shape := ⟨1, ![2048]⟩
abbrev S2048x1 : Shape := ⟨2, ![2048, 1]⟩
abbrev S1x2048 : Shape := ⟨2, ![1, 2048]⟩
abbrev S1024x2048 : Shape := ⟨2, ![1024, 2048]⟩
abbrev S2048x64 : Shape := ⟨2, ![2048, 64]⟩
abbrev S1024x64 : Shape := ⟨2, ![1024, 64]⟩

abbrev nBuf : Space → Nat
  | .hbm => 19
  | .vmem => 26
  | .smem => 0
  | _ => 0

abbrev bufTy : (tb : Table) → Fin (tcTables nBuf tb) → BufTy
  | .hbm, ⟨0, _⟩ => ⟨S4x8192x3, .f32⟩
  | .hbm, ⟨1, _⟩ => ⟨S4x8192x64, .f32⟩
  | .hbm, ⟨2, _⟩ => ⟨S4x2048x3, .f32⟩
  | .hbm, ⟨3, _⟩ => ⟨S4x2048x128, .f32⟩
  | .hbm, ⟨4, _⟩ => ⟨S64x128, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S8192x128, .f32⟩
  | .hbm, ⟨13, _⟩ => ⟨S32768x64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S4x8192x64, .f32⟩
  | .local _ .vmem, ⟨0, _⟩ => ⟨S1024x128, .f32⟩
  | .local _ .vmem, ⟨1, _⟩ => ⟨S1024x128, .f32⟩
  | .local _ .vmem, ⟨2, _⟩ => ⟨S4096x64, .f32⟩
  | .local _ .vmem, ⟨3, _⟩ => ⟨S4096x64, .f32⟩
  | .local _ .vmem, ⟨4, _⟩ => ⟨S1x1024x3, .f32⟩
  | .local _ .vmem, ⟨5, _⟩ => ⟨S1x1024x3, .f32⟩
  | .local _ .vmem, ⟨6, _⟩ => ⟨S1x1024x64, .f32⟩
  | .local _ .vmem, ⟨7, _⟩ => ⟨S1x1024x64, .f32⟩
  | .local _ .vmem, ⟨8, _⟩ => ⟨S1x2048x3, .f32⟩
  | .local _ .vmem, ⟨9, _⟩ => ⟨S1x2048x3, .f32⟩
  | .local _ .vmem, ⟨10, _⟩ => ⟨S64x128, .f32⟩
  | .local _ .vmem, ⟨11, _⟩ => ⟨S64x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x1024x64, .f32⟩
  | .local _ .vmem, ⟨17, _⟩ => ⟨S1x1024x64, .f32⟩
  | .local _ .vmem, ⟨18, _⟩ => ⟨S128x128, .f32⟩
  | .local _ .vmem, ⟨19, _⟩ => ⟨S1x128, .f32⟩
  | .local _ .vmem, ⟨20, _⟩ => ⟨S64x64, .f32⟩
  | .local _ .vmem, ⟨21, _⟩ => ⟨S1x64, .f32⟩
  | .local _ .vmem, ⟨22, _⟩ => ⟨S8192x128, .f32⟩
  | .local _ .vmem, ⟨23, _⟩ => ⟨S8192x64, .f32⟩
  | .local _ .vmem, ⟨24, _⟩ => ⟨S1x64, .f32⟩
  | .local _ .vmem, ⟨25, _⟩ => ⟨S1x64, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![40], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c1024_i32 : BitVec 32 := 1024#32
  let v42 : BitVec 32 := Scalar.muli arg0 c1024_i32
  let v43 : Index := Scalar.indexCast v42
  let c0_27 : Index := 0#32
  ![v43.toNat, 0]
def k0_cond4 (i : grid0.Coords) : BitVec 1 :=
  let arg0 : BitVec 32 := BitVec.ofNat 32 (i 0).val
  let c8_i32_3 : BitVec 32 := 8#32
  let v9 : BitVec 1 := Scalar.cmpi .sge arg0 c8_i32_3
  let v10 : BitVec 32 := Scalar.extui v9
  let c0_i32_4 : BitVec 32 := 0#32
  let v11 : BitVec 1 := Scalar.cmpi .ne v10 c0_i32_4
  v11

def k0_off2 (i : grid0.Coords) : Fin 2 → Nat :=
  let arg0 : BitVec 32 := BitVec.ofNat 32 (i 0).val
  let c8_i32_5 : BitVec 32 := 8#32
  let v12 : BitVec 32 := Scalar.subi arg0 c8_i32_5
  let c0_i32_7 : BitVec 32 := 0#32
  let v14 : BitVec 1 := Scalar.cmpi .sgt v12 c0_i32_7
  let v15 : BitVec 32 := Scalar.extui v14
  let c0_i32_8 : BitVec 32 := 0#32
  let v16 : BitVec 1 := Scalar.cmpi .slt v12 c0_i32_8
  let v17 : BitVec 32 := Scalar.extui v16
  let v18 : BitVec 32 := Scalar.subi v15 v17
  let c8_i32_6 : BitVec 32 := 8#32
  let c0_i32_9 : BitVec 32 := 0#32
  let v19 : BitVec 1 := Scalar.cmpi .sgt c8_i32_6 c0_i32_9
  let v20 : BitVec 32 := Scalar.extui v19
  let c0_i32_10 : BitVec 32 := 0#32
  let v21 : BitVec 1 := Scalar.cmpi .slt c8_i32_6 c0_i32_10
  let v22 : BitVec 32 := Scalar.extui v21
  let v23 : BitVec 32 := Scalar.subi v20 v22
  let v24 : BitVec 1 := Scalar.cmpi .ne v18 v23
  let v25 : BitVec 32 := Scalar.remsi v12 c8_i32_6
  let c0_i32_11 : BitVec 32 := 0#32
  let v26 : BitVec 1 := Scalar.cmpi .ne v25 c0_i32_11
  let v27 : BitVec 1 := Scalar.andi v24 v26
  let v13 : BitVec 32 := Scalar.divsi v12 c8_i32_6
  let c1_i32 : BitVec 32 := 1#32
  let v28 : BitVec 32 := Scalar.subi v13 c1_i32
  let v29 : BitVec 32 := Scalar.select v27 v28 v13
  let c2048_i32 : BitVec 32 := 2048#32
  let v103 : BitVec 32 := Scalar.muli v29 c2048_i32
  let v104 : Index := Scalar.indexCast v103
  let c0_39 : Index := 0#32
  ![v104.toNat, 0]
def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_3 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_4 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c8_i32_0 : BitVec 32 := 8#32
  let v2 : BitVec 32 := Scalar.divsi v1 c8_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c8_i32_0 c0_i32_3
  let v9 : BitVec 32 := Scalar.extui v8
  let c0_i32_4 : BitVec 32 := 0#32
  let v10 : BitVec 1 := Scalar.cmpi .slt c8_i32_0 c0_i32_4
  let v11 : BitVec 32 := Scalar.extui v10
  let v12 : BitVec 32 := Scalar.subi v9 v11
  let v13 : BitVec 1 := Scalar.cmpi .ne v7 v12
  let v14 : BitVec 32 := Scalar.remsi v1 c8_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1024x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4x8192x3 : Shape := ⟨3, ![4, 8192, 3]⟩
abbrev S4x8192x64 : Shape := ⟨3, ![4, 8192, 64]⟩
abbrev S4x2048x3 : Shape := ⟨3, ![4, 2048, 3]⟩
abbrev S4x2048x128 : Shape := ⟨3, ![4, 2048, 128]⟩
abbrev S64x128 : Shape := ⟨2, ![64, 128]⟩
abbrev S64 : Shape := ⟨1, ![64]⟩
abbrev S64x64 : Shape := ⟨2, ![64, 64]⟩
abbrev S4x2048x64 : Shape := ⟨3, ![4, 2048, 64]⟩
abbrev S1x1x64 : Shape := ⟨3, ![1, 1, 64]⟩
abbrev S_ : Shape := ⟨0, ![]⟩
abbrev S4x8192 : Shape := ⟨2, ![4, 8192]⟩
abbrev S4x8192x1 : Shape := ⟨3, ![4, 8192, 1]⟩
abbrev S4x2048 : Shape := ⟨2, ![4, 2048]⟩
abbrev S4x1x2048 : Shape := ⟨3, ![4, 1, 2048]⟩
abbrev S4x8192x2048 : Shape := ⟨3, ![4, 8192, 2048]⟩
abbrev S4x8192x3x1 : Shape := ⟨4, ![4, 8192, 3, 1]⟩
abbrev S4x8192x3x64 : Shape := ⟨4, ![4, 8192, 3, 64]⟩

abbrev nBuf : Space → Nat
  | .hbm => 163
  | .vmem => 0
  | .smem => 0
  | _ => 0

abbrev hbmTy0_0 (i : Nat) : BufTy := match i % 128 with
  | 0 => ⟨S4x8192x3, .f32⟩
  | 1 => ⟨S4x8192x64, .f32⟩
  | 2 => ⟨S4x2048x3, .f32⟩
  | 3 => ⟨S4x2048x128, .f32⟩
  | 4 => ⟨S64x128, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S64, .f32⟩
  | 12 => ⟨S4x2048x64, .f32⟩
  | 13 => ⟨S1x1x64, .f32⟩
  | 14 => ⟨S4x2048x64, .f32⟩
  | 15 => ⟨S4x2048x64, .f32⟩
  | 16 => ⟨S_, .f32⟩
  | 17 => ⟨S64, .f32⟩
  | 18 => ⟨S1x1x64, .f32⟩
  | 19 => ⟨S_, .f32⟩
  | 20 => ⟨S1x1x64, .f32⟩
  | 21 => ⟨S1x1x64, .f32⟩
  | 22 => ⟨S_, .i32⟩
  | 23 => ⟨S_, .f32⟩
  | 24 => ⟨S64, .f32⟩
  | 25 => ⟨S1x1x64, .f32⟩
  | 26 => ⟨S_, .f32⟩
  | 27 => ⟨S1x1x64, .f32⟩
  | 28 => ⟨S1x1x64, .f32⟩
  | 29 => ⟨S4x2048x64, .f32⟩
  | 30 => ⟨S4x2048x64, .f32⟩
  | 31 => ⟨S4x2048x64, .f32⟩
  | 32 => ⟨S_, .f32⟩
  | 33 => ⟨S_, .f32⟩
  | 34 => ⟨S_, .f32⟩
  | 35 => ⟨S_, .f32⟩
  | 36 => ⟨S64, .f32⟩
  | 37 => ⟨S1x1x64, .f32⟩
  | 38 => ⟨S1x1x64, .f32⟩
  | 39 => ⟨S1x1x64, .f32⟩
  | 40 => ⟨S_, .f32⟩
  | 41 => ⟨S_, .i1⟩
  | 42 => ⟨S_, .f32⟩
  | 43 => ⟨S_, .f32⟩
  | 44 => ⟨S1x1x64, .f32⟩
  | 45 => ⟨S1x1x64, .f32⟩
  | 46 => ⟨S4x2048x64, .f32⟩
  | 47 => ⟨S4x2048x64, .f32⟩
  | 48 => ⟨S_, .f32⟩
  | 49 => ⟨S1x1x64, .f32⟩
  | 50 => ⟨S1x1x64, .f32⟩
  | 51 => ⟨S1x1x64, .f32⟩
  | 52 => ⟨S4x2048x64, .f32⟩
  | 53 => ⟨S4x2048x64, .f32⟩
  | 54 => ⟨S1x1x64, .f32⟩
  | 55 => ⟨S4x2048x64, .f32⟩
  | 56 => ⟨S4x2048x64, .f32⟩
  | 57 => ⟨S1x1x64, .f32⟩
  | 58 => ⟨S4x2048x64, .f32⟩
  | 59 => ⟨S4x2048x64, .f32⟩
  | 60 => ⟨S_, .f32⟩
  | 61 => ⟨S4x2048x64, .f32⟩
  | 62 => ⟨S4x2048x64, .f32⟩
  | 63 => ⟨S4x8192x3, .f32⟩
  | 64 => ⟨S_, .f32⟩
  | 65 => ⟨S4x8192, .f32⟩
  | 66 => ⟨S4x8192x1, .f32⟩
  | 67 => ⟨S4x2048x3, .f32⟩
  | 68 => ⟨S_, .f32⟩
  | 69 => ⟨S4x2048, .f32⟩
  | 70 => ⟨S4x1x2048, .f32⟩
  | 71 => ⟨S4x8192x2048, .f32⟩
  | 72 => ⟨S4x8192x2048, .f32⟩
  | 73 => ⟨S4x8192x2048, .f32⟩
  | 74 => ⟨S4x8192x2048, .f32⟩
  | 75 => ⟨S_, .f32⟩
  | 76 => ⟨S4x8192x2048, .f32⟩
  | 77 => ⟨S4x8192x2048, .f32⟩
  | 78 => ⟨S4x8192x2048, .f32⟩
  | 79 => ⟨S4x8192x2048, .f32⟩
  | 80 => ⟨S4x8192x3, .f32⟩
  | 81 => ⟨S4x8192x3, .i32⟩
  | 82 => ⟨S4x8192x3, .f32⟩
  | 83 => ⟨S_, .f32⟩
  | 84 => ⟨S4x8192x3, .f32⟩
  | 85 => ⟨S4x8192x3, .f32⟩
  | 86 => ⟨S_, .f32⟩
  | 87 => ⟨S4x8192x3, .f32⟩
  | 88 => ⟨S4x8192x3, .f32⟩
  | 89 => ⟨S_, .f32⟩
  | 90 => ⟨S4x8192x3, .f32⟩
  | 91 => ⟨S4x8192x3, .f32⟩
  | 92 => ⟨S_, .f32⟩
  | 93 => ⟨S4x8192, .f32⟩
  | 94 => ⟨S4x8192x1, .f32⟩
  | 95 => ⟨S4x8192x3, .f32⟩
  | 96 => ⟨S4x8192x3, .f32⟩
  | 97 => ⟨S_, .i32⟩
  | 98 => ⟨S4x8192x3, .i32⟩
  | 99 => ⟨S4x8192x3, .i1⟩
  | 100 => ⟨S_, .i32⟩
  | 101 => ⟨S4x8192x3, .i32⟩
  | 102 => ⟨S4x8192x3, .i32⟩
  | 103 => ⟨S4x8192x3, .i32⟩
  | 104 => ⟨S4x8192x3x1, .i32⟩
  | 105 => ⟨S4x8192x3x64, .f32⟩
  | 106 => ⟨S4x8192x3x1, .f32⟩
  | 107 => ⟨S4x8192x3x64, .f32⟩
  | 108 => ⟨S4x8192x3x64, .f32⟩
  | 109 => ⟨S_, .f32⟩
  | 110 => ⟨S4x8192x64, .f32⟩
  | 111 => ⟨S4x8192x64, .f32⟩
  | 112 => ⟨S1x1x64, .f32⟩
  | 113 => ⟨S4x8192x64, .f32⟩
  | 114 => ⟨S4x8192x64, .f32⟩
  | 115 => ⟨S_, .f32⟩
  | 116 => ⟨S64, .f32⟩
  | 117 => ⟨S1x1x64, .f32⟩
  | 118 => ⟨S_, .f32⟩
  | 119 => ⟨S1x1x64, .f32⟩
  | 120 => ⟨S1x1x64, .f32⟩
  | 121 => ⟨S_, .i32⟩
  | 122 => ⟨S_, .f32⟩
  | 123 => ⟨S64, .f32⟩
  | 124 => ⟨S1x1x64, .f32⟩
  | 125 => ⟨S_, .f32⟩
  | 126 => ⟨S1x1x64, .f32⟩
  | 127 => ⟨S1x1x64, .f32⟩
  | _ => ⟨S4x8192x3, .f32⟩

abbrev hbmTy0_1 (i : Nat) : BufTy := match i % 128 with
  | 0 => ⟨S4x8192x64, .f32⟩
  | 1 => ⟨S4x8192x64, .f32⟩
  | 2 => ⟨S4x8192x64, .f32⟩
  | 3 => ⟨S_, .f32⟩
  | 4 => ⟨S_, .f32⟩
  | 5 => ⟨S_, .f32⟩
  | 6 => ⟨S_, .f32⟩
  | 7 => ⟨S64, .f32⟩
  | 8 => ⟨S1x1x64, .f32⟩
  | 9 => ⟨S1x1x64, .f32⟩
  | 10 => ⟨S1x1x64, .f32⟩
  | 11 => ⟨S_, .f32⟩
  | 12 => ⟨S_, .i1⟩
  | 13 => ⟨S_, .f32⟩
  | 14 => ⟨S_, .f32⟩
  | 15 => ⟨S1x1x64, .f32⟩
  | 16 => ⟨S1x1x64, .f32⟩
  | 17 => ⟨S4x8192x64, .f32⟩
  | 18 => ⟨S4x8192x64, .f32⟩
  | 19 => ⟨S_, .f32⟩
  | 20 => ⟨S1x1x64, .f32⟩
  | 21 => ⟨S1x1x64, .f32⟩
  | 22 => ⟨S1x1x64, .f32⟩
  | 23 => ⟨S4x8192x64, .f32⟩
  | 24 => ⟨S4x8192x64, .f32⟩
  | 25 => ⟨S1x1x64, .f32⟩
  | 26 => ⟨S4x8192x64, .f32⟩
  | 27 => ⟨S4x8192x64, .f32⟩
  | 28 => ⟨S1x1x64, .f32⟩
  | 29 => ⟨S4x8192x64, .f32⟩
  | 30 => ⟨S4x8192x64, .f32⟩
  | 31 => ⟨S_, .f32⟩
  | 32 => ⟨S4x8192x64, .f32⟩
  | 33 => ⟨S4x8192x64, .f32⟩
  | 34 => ⟨S4x8192x64, .f32⟩
  | _ => ⟨S4x8192x3, .f32⟩

abbrev hbmTy (i : Nat) : BufTy := match i / 128 with
  | 0 => hbmTy0_0 i
  | 1 => hbmTy0_1 i
  | _ => ⟨S4x8192x3, .f32⟩

abbrev bufTy : (tb : Table) → Fin (tcTables nBuf tb) → BufTy
  | .hbm, ⟨i, _⟩ => hbmTy i
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_cst_3 : Ref sig .tc := ⟨.hbm, 40, rfl⟩
abbrev main_call0_v13 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_cst_1 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_2 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_3 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst_4 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_5 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_values : Ref sig .tc := ⟨.hbm, 80, rfl⟩
abbrev main_indices : Ref sig .tc := ⟨.hbm, 81, rfl⟩
abbrev main_v38 : Ref sig .tc := ⟨.hbm, 82, rfl⟩
abbrev main_cst_6 : Ref sig .tc := ⟨.hbm, 83, rfl⟩
abbrev main_v39 : Ref sig .tc := ⟨.hbm, 84, rfl⟩
abbrev main_v40 : Ref sig .tc := ⟨.hbm, 85, rfl⟩
abbrev main_cst_7 : Ref sig .tc := ⟨.hbm, 86, rfl⟩
abbrev main_v41 : Ref sig .tc := ⟨.hbm, 87, rfl⟩
abbrev main_v42 : Ref sig .tc := ⟨.hbm, 88, rfl⟩
abbrev main_cst_8 : Ref sig .tc := ⟨.hbm, 89, rfl⟩
abbrev main_v43 : Ref sig .tc := ⟨.hbm, 90, rfl⟩
abbrev main_v44 : Ref sig .tc := ⟨.hbm, 91, rfl⟩
abbrev main_cst_9 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_c_10 : Ref sig .tc := ⟨.hbm, 97, rfl⟩
abbrev main_v49 : Ref sig .tc := ⟨.hbm, 98, rfl⟩
abbrev main_v50 : Ref sig .tc := ⟨.hbm, 99, rfl⟩
abbrev main_c_11 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_12 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_cst_13 : Ref sig .tc := ⟨.hbm, 115, rfl⟩
abbrev main_v64 : Ref sig .tc := ⟨.hbm, 116, rfl⟩
abbrev main_v65 : Ref sig .tc := ⟨.hbm, 117, rfl⟩
abbrev main_cst_14 : Ref sig .tc := ⟨.hbm, 118, rfl⟩
abbrev main_v66 : Ref sig .tc := ⟨.hbm, 119, rfl⟩
abbrev main_v67 : Ref sig .tc := ⟨.hbm, 120, rfl⟩
abbrev main_c_15 : Ref sig .tc := ⟨.hbm, 121, rfl⟩
abbrev main_call1_cst : Ref sig .tc := ⟨.hbm, 122, rfl⟩
abbrev main_call1_v0 : Ref sig .tc := ⟨.hbm, 123, rfl⟩
abbrev main_call1_v1 : Ref sig .tc := ⟨.hbm, 124, rfl⟩
abbrev main_call1_cst_0 : Ref sig .tc := ⟨.hbm, 125, rfl⟩
abbrev main_call1_v2 : Ref sig .tc := ⟨.hbm, 126, rfl⟩
abbrev main_call1_v3 : Ref sig .tc := ⟨.hbm, 127, rfl⟩
abbrev main_call1_v4 : Ref sig .tc := ⟨.hbm, 128, rfl⟩
abbrev main_call1_v5 : Ref sig .tc := ⟨.hbm, 129, rfl⟩
abbrev main_call1_v6 : Ref sig .tc := ⟨.hbm, 130, rfl⟩
abbrev main_call1_v7 : Ref sig .tc := ⟨.hbm, 131, rfl⟩
abbrev main_call1_cst_1 : Ref sig .tc := ⟨.hbm, 132, rfl⟩
abbrev main_call1_v8 : Ref sig .tc := ⟨.hbm, 133, rfl⟩
abbrev main_call1_cst_2 : Ref sig .tc := ⟨.hbm, 134, rfl⟩
abbrev main_call1_v9 : Ref sig .tc := ⟨.hbm, 135, rfl⟩
abbrev main_call1_v10 : Ref sig .tc := ⟨.hbm, 136, rfl⟩
abbrev main_call1_v11 : Ref sig .tc := ⟨.hbm, 137, rfl⟩
abbrev main_call1_v12 : Ref sig .tc := ⟨.hbm, 138, rfl⟩
abbrev main_call1_cst_3 : Ref sig .tc := ⟨.hbm, 139, rfl⟩
abbrev main_call1_v13 : Ref sig .tc := ⟨.hbm, 140, rfl⟩
abbrev main_call1_cst_4 : Ref sig .tc := ⟨.hbm, 141, rfl⟩
abbrev main_call1_call0_v0 : Ref sig .tc := ⟨.hbm, 142, rfl⟩
abbrev main_call1_call0_v1 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_cst_16 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_cst_17 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩

abbrev nD : Nat := 1
abbrev τ : Topo := Topo.v7x

variable {F : FTy → Type} [FloatOps F]
-- ==== Proof.Body.First.lean ====
/- The kernel body at the first grid point, run from what its buffers hold to what it leaves. -/
module

public import proofs.«01_k».proof.Proof.Gen.KernelIdeal.Frame
public import proofs.«01_k».proof.Proof.Gen.KernelIdeal.Skeleton
public import Idealize.ShloMosaic.Lib.VecWindow
public import Idealize.ShloMosaic.Lib.Pipeline.Value

@[expose] public section

-- the stores' rectangles have long axes
set_option maxRecDepth 16384

noncomputable section

namespace Cert.KernelIdeal.Mine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- THE FIRST POINT. The two Gram matrices and the two row sums start from zero and take the first chunk; the chunk is copied into its rows of the feature scratch. -/
theorem run_first (c : Dev nD) (i : grid0.Coords) (arg1 : Memref sig .tc .vmem S1024x128 .f32) (harg1 : arg1.IsWhole) (arg2 : Memref sig .tc .vmem S4096x64 .f32) (harg2 : arg2.IsWhole) (arg3 : Memref sig .tc .vmem S1x1024x3 .f32) (harg3 : arg3.IsWhole) (arg4 : Memref sig .tc .vmem S1x1024x64 .f32) (harg4 : arg4.IsWhole) (arg5 : Memref sig .tc .vmem S1x2048x3 .f32) (harg5 : arg5.IsWhole) (arg6 : Memref sig .tc .vmem S64x128 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x1024x64 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S8192x128 .f32) (harg17 : arg17.IsWhole) (arg18 : Memref sig .tc .vmem S8192x64 .f32) (harg18 : arg18.IsWhole) (arg19 : Memref sig .tc .vmem S1x64 .f32) (harg19 : arg19.IsWhole) (arg20 : Memref sig .tc .vmem S1x64 .f32) (harg20 : arg20.IsWhole)
    (hc0 : (Scalar.cmpi .ne (Scalar.extui (Scalar.cmpi .eq (BitVec.ofNat 32 (i 0).val) 0#32)) 0#32) = 1#1) (hc1 : k0_cond2 i = 1#1) (hc2 : ¬ (Scalar.cmpi .ne (Scalar.extui (Scalar.cmpi .eq (BitVec.ofNat 32 (i 0).val) 7#32)) 0#32) = 1#1) (hc3 : ¬ k0_cond4 i = 1#1)
    (x1 : Vec F S1024x128 .f32) (x2 : Vec F S4096x64 .f32) (x3 : Vec F S1x1024x3 .f32) (x4 : Vec F S1x1024x64 .f32) (x5 : Vec F S1x2048x3 .f32) (x6 : Vec F S64x128 .f32) (x7 : Vec F S64x64 .f32) (x8 : Vec F S1x64 .f32) (x9 : Vec F S1x64 .f32) (x10 : Vec F S1x64 .f32) (x11 : Vec F S1x64 .f32) (x12 : Vec F S1x1024x64 .f32) (x17 : Vec F S8192x128 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (k0_pay14 x1 (k0_pay1 (F := F))) ∗ owns (c : Thread nD τ) arg14 fullShare (k0_pay15 x1 (k0_pay2 (F := F))) ∗ owns (c : Thread nD τ) arg15 fullShare (k0_pay16 x2 (k0_pay3 (F := F))) ∗ owns (c : Thread nD τ) arg16 fullShare (k0_pay17 x2 (k0_pay4 (F := F))) ∗ owns (c : Thread nD τ) arg17 fullShare (VecWindow.put x17 (k0_off1 i) S1024x128.size (k0_pay5 (k0_pay12 x1))) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__fused_kernel_eq_skeleton]; unfold cc0__fused_kernel_skel
  simp only [k0_part1_eq_skeleton, k0_part2_eq_skeleton, k0_part3_eq_skeleton, k0_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%f17, %hf17, H17⟩, ⟨%d18, %f18, -, H18⟩, ⟨%d19, %f19, -, H19⟩, ⟨%d20, %f20, -, H20⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg17.eq_unread hf17
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; swap; · iexact H13
    ipureintro
    (sl_unfold_run_names
     first
       | refine (View.read_writes_full _ _ _ _ _).trans ?_
       | refine (View.read_writes_cons_put _ _ _ _ _ rfl).trans ?_
     try simp only [(show View.readAt (Elt F) arg1.view (Rect.unit (s := S1024x128) ![0, 0] S1024x128.size inb_S1024x128_S1024x128_0_0).toLoadRect (harg1.unread x1) = x1 from (View.readAt_full _ _ _).trans (harg1.read_unread _)), (show View.readAt (Elt F) arg2.view (Rect.unit (s := S4096x64) ![0, 0] S4096x64.size inb_S4096x64_S4096x64_0_0).toLoadRect (harg2.unread x2) = x2 from (View.readAt_full _ _ _).trans (harg2.read_unread _)), (show ∀ w, arg13.view.readCov (Val := Elt F) [⟨(Rect.unit (s := S128x128) ![0, 0] S128x128.size inb_S128x128_S128x128_0_0), w⟩] (Rect.unit (s := S128x128) ![0, 0] S128x128.size inb_S128x128_S128x128_0_0).toLoadRect = w from fun w => View.readCov_full _ _ _ _ _), (show ∀ w, arg14.view.readCov (Val := Elt F) [⟨(Rect.unit (s := S1x128) ![0, 0] S1x128.size inb_S1x128_S1x128_0_0), w⟩] (Rect.unit (s := S1x128) ![0, 0] S1x128.size inb_S1x128_S1x128_0_0).toLoadRect = w from fun w => View.readCov_full _ _ _ _ _), (show ∀ w, arg15.view.readCov (Val := Elt F) [⟨(Rect.unit (s := S64x64) ![0, 0] S64x64.size inb_S64x64_S64x64_0_0), w⟩] (Rect.unit (s := S64x64) ![0, 0] S64x64.size inb_S64x64_S64x64_0_0).toLoadRect = w from fun w => View.readCov_full _ _ _ _ _), (show ∀ w, arg16.view.readCov (Val := Elt F) [⟨(Rect.unit (s := S1x64) ![0, 0] S1x64.size inb_S1x64_S1x64_0_0), w⟩] (Rect.unit (s := S1x64) ![0, 0] S1x64.size inb_S1x64_S1x64_0_0).toLoadRect = w from fun w => View.readCov_full _ _ _ _ _), View.writes_nil, Memref.IsWhole.read_unread, View.readAt_eq_ld])
  isplitl [H14]
  · iexists _; isplitr; swap; · iexact H14
    ipureintro
    (sl_unfold_run_names
     first
       | refine (View.read_writes_full _ _ _ _ _).trans ?_
       | refine (View.read_writes_cons_put _ _ _ _ _ rfl).trans ?_
     try simp only [(show View.readAt (Elt F) arg1.view (Rect.unit (s := S1024x128) ![0, 0] S1024x128.size inb_S1024x128_S1024x128_0_0).toLoadRect (harg1.unread x1) = x1 from (View.readAt_full _ _ _).trans (harg1.read_unread _)), (show View.readAt (Elt F) arg2.view (Rect.unit (s := S4096x64) ![0, 0] S4096x64.size inb_S4096x64_S4096x64_0_0).toLoadRect (harg2.unread x2) = x2 from (View.readAt_full _ _ _).trans (harg2.read_unread _)), (show ∀ w, arg13.view.readCov (Val := Elt F) [⟨(Rect.unit (s := S128x128) ![0, 0] S128x128.size inb_S128x128_S128x128_0_0), w⟩] (Rect.unit (s := S128x128) ![0, 0] S128x128.size inb_S128x128_S128x128_0_0).toLoadRect = w from fun w => View.readCov_full _ _ _ _ _), (show ∀ w, arg14.view.readCov (Val := Elt F) [⟨(Rect.unit (s := S1x128) ![0, 0] S1x128.size inb_S1x128_S1x128_0_0), w⟩] (Rect.unit (s := S1x128) ![0, 0] S1x128.size inb_S1x128_S1x128_0_0).toLoadRect = w from fun w => View.readCov_full _ _ _ _ _), (show ∀ w, arg15.view.readCov (Val := Elt F) [⟨(Rect.unit (s := S64x64) ![0, 0] S64x64.size inb_S64x64_S64x64_0_0), w⟩] (Rect.unit (s := S64x64) ![0, 0] S64x64.size inb_S64x64_S64x64_0_0).toLoadRect = w from fun w => View.readCov_full _ _ _ _ _), (show ∀ w, arg16.view.readCov (Val := Elt F) [⟨(Rect.unit (s := S1x64) ![0, 0] S1x64.size inb_S1x64_S1x64_0_0), w⟩] (Rect.unit (s := S1x64) ![0, 0] S1x64.size inb_S1x64_S1x64_0_0).toLoadRect = w from fun w => View.readCov_full _ _ _ _ _), View.writes_nil, Memref.IsWhole.read_unread, View.readAt_eq_ld])
  isplitl [H15]
  · iexists _; isplitr; swap; · iexact H15
    ipureintro
    (sl_unfold_run_names
     first
       | refine (View.read_writes_full _ _ _ _ _).trans ?_
       | refine (View.read_writes_cons_put _ _ _ _ _ rfl).trans ?_
     try simp only [(show View.readAt (Elt F) arg1.view (Rect.unit (s := S1024x128) ![0, 0] S1024x128.size inb_S1024x128_S1024x128_0_0).toLoadRect (harg1.unread x1) = x1 from (View.readAt_full _ _ _).trans (harg1.read_unread _)), (show View.readAt (Elt F) arg2.view (Rect.unit (s := S4096x64) ![0, 0] S4096x64.size inb_S4096x64_S4096x64_0_0).toLoadRect (harg2.unread x2) = x2 from (View.readAt_full _ _ _).trans (harg2.read_unread _)), (show ∀ w, arg13.view.readCov (Val := Elt F) [⟨(Rect.unit (s := S128x128) ![0, 0] S128x128.size inb_S128x128_S128x128_0_0), w⟩] (Rect.unit (s := S128x128) ![0, 0] S128x128.size inb_S128x128_S128x128_0_0).toLoadRect = w from fun w => View.readCov_full _ _ _ _ _), (show ∀ w, arg14.view.readCov (Val := Elt F) [⟨(Rect.unit (s := S1x128) ![0, 0] S1x128.size inb_S1x128_S1x128_0_0), w⟩] (Rect.unit (s := S1x128) ![0, 0] S1x128.size inb_S1x128_S1x128_0_0).toLoadRect = w from fun w => View.readCov_full _ _ _ _ _), (show ∀ w, arg15.view.readCov (Val := Elt F) [⟨(Rect.unit (s := S64x64) ![0, 0] S64x64.size inb_S64x64_S64x64_0_0), w⟩] (Rect.unit (s := S64x64) ![0, 0] S64x64.size inb_S64x64_S64x64_0_0).toLoadRect = w from fun w => View.readCov_full _ _ _ _ _), (show ∀ w, arg16.view.readCov (Val := Elt F) [⟨(Rect.unit (s := S1x64) ![0, 0] S1x64.size inb_S1x64_S1x64_0_0), w⟩] (Rect.unit (s := S1x64) ![0, 0] S1x64.size inb_S1x64_S1x64_0_0).toLoadRect = w from fun w => View.readCov_full _ _ _ _ _), View.writes_nil, Memref.IsWhole.read_unread, View.readAt_eq_ld])
  isplitl [H16]
  · iexists _; isplitr; swap; · iexact H16
    ipureintro
    (sl_unfold_run_names
     first
       | refine (View.read_writes_full _ _ _ _ _).trans ?_
       | refine (View.read_writes_cons_put _ _ _ _ _ rfl).trans ?_
     try simp only [(show View.readAt (Elt F) arg1.view (Rect.unit (s := S1024x128) ![0, 0] S1024x128.size inb_S1024x128_S1024x128_0_0).toLoadRect (harg1.unread x1) = x1 from (View.readAt_full _ _ _).trans (harg1.read_unread _)), (show View.readAt (Elt F) arg2.view (Rect.unit (s := S4096x64) ![0, 0] S4096x64.size inb_S4096x64_S4096x64_0_0).toLoadRect (harg2.unread x2) = x2 from (View.readAt_full _ _ _).trans (harg2.read_unread _)), (show ∀ w, arg13.view.readCov (Val := Elt F) [⟨(Rect.unit (s := S128x128) ![0, 0] S128x128.size inb_S128x128_S128x128_0_0), w⟩] (Rect.unit (s := S128x128) ![0, 0] S128x128.size inb_S128x128_S128x128_0_0).toLoadRect = w from fun w => View.readCov_full _ _ _ _ _), (show ∀ w, arg14.view.readCov (Val := Elt F) [⟨(Rect.unit (s := S1x128) ![0, 0] S1x128.size inb_S1x128_S1x128_0_0), w⟩] (Rect.unit (s := S1x128) ![0, 0] S1x128.size inb_S1x128_S1x128_0_0).toLoadRect = w from fun w => View.readCov_full _ _ _ _ _), (show ∀ w, arg15.view.readCov (Val := Elt F) [⟨(Rect.unit (s := S64x64) ![0, 0] S64x64.size inb_S64x64_S64x64_0_0), w⟩] (Rect.unit (s := S64x64) ![0, 0] S64x64.size inb_S64x64_S64x64_0_0).toLoadRect = w from fun w => View.readCov_full _ _ _ _ _), (show ∀ w, arg16.view.readCov (Val := Elt F) [⟨(Rect.unit (s := S1x64) ![0, 0] S1x64.size inb_S1x64_S1x64_0_0), w⟩] (Rect.unit (s := S1x64) ![0, 0] S1x64.size inb_S1x64_S1x64_0_0).toLoadRect = w from fun w => View.readCov_full _ _ _ _ _), View.writes_nil, Memref.IsWhole.read_unread, View.readAt_eq_ld])
  isplitl [H17]
  · iexists _; isplitr; swap; · iexact H17
    ipureintro
    (sl_unfold_run_names
     first
       | refine (View.read_writes_full _ _ _ _ _).trans ?_
       | refine (View.read_writes_cons_put _ _ _ _ _ rfl).trans ?_
     try simp only [(show View.readAt (Elt F) arg1.view (Rect.unit (s := S1024x128) ![0, 0] S1024x128.size inb_S1024x128_S1024x128_0_0).toLoadRect (harg1.unread x1) = x1 from (View.readAt_full _ _ _).trans (harg1.read_unread _)), (show View.readAt (Elt F) arg2.view (Rect.unit (s := S4096x64) ![0, 0] S4096x64.size inb_S4096x64_S4096x64_0_0).toLoadRect (harg2.unread x2) = x2 from (View.readAt_full _ _ _).trans (harg2.read_unread _)), (show ∀ w, arg13.view.readCov (Val := Elt F) [⟨(Rect.unit (s := S128x128) ![0, 0] S128x128.size inb_S128x128_S128x128_0_0), w⟩] (Rect.unit (s := S128x128) ![0, 0] S128x128.size inb_S128x128_S128x128_0_0).toLoadRect = w from fun w => View.readCov_full _ _ _ _ _), (show ∀ w, arg14.view.readCov (Val := Elt F) [⟨(Rect.unit (s := S1x128) ![0, 0] S1x128.size inb_S1x128_S1x128_0_0), w⟩] (Rect.unit (s := S1x128) ![0, 0] S1x128.size inb_S1x128_S1x128_0_0).toLoadRect = w from fun w => View.readCov_full _ _ _ _ _), (show ∀ w, arg15.view.readCov (Val := Elt F) [⟨(Rect.unit (s := S64x64) ![0, 0] S64x64.size inb_S64x64_S64x64_0_0), w⟩] (Rect.unit (s := S64x64) ![0, 0] S64x64.size inb_S64x64_S64x64_0_0).toLoadRect = w from fun w => View.readCov_full _ _ _ _ _), (show ∀ w, arg16.view.readCov (Val := Elt F) [⟨(Rect.unit (s := S1x64) ![0, 0] S1x64.size inb_S1x64_S1x64_0_0), w⟩] (Rect.unit (s := S1x64) ![0, 0] S1x64.size inb_S1x64_S1x64_0_0).toLoadRect = w from fun w => View.readCov_full _ _ _ _ _), View.writes_nil, Memref.IsWhole.read_unread, View.readAt_eq_ld])
  isplitl [H18]
  · iexists _, _; isplitr; swap; · iexact H18
    ipureintro; rfl
  isplitl [H19]
  · iexists _, _; isplitr; swap; · iexact H19
    ipureintro; rfl
  iexists _, _; isplitr; swap; · iexact H20
  ipureintro; rfl

end Cert.KernelIdeal.Mine

end
-- ==== Proof.Body.Chunk.lean ====
/- The kernel body at grid points 1 to 6, run from what its buffers hold to what it leaves. -/
module

public import proofs.«01_k».proof.Proof.Gen.KernelIdeal.Frame
public import proofs.«01_k».proof.Proof.Gen.KernelIdeal.Skeleton
public import proofs.«01_k».proof.Proof.Body.First
public import Idealize.ShloMosaic.Lib.VecWindow
public import Idealize.ShloMosaic.Lib.Pipeline.Value

@[expose] public section

-- the stores' rectangles have long axes
set_option maxRecDepth 16384

noncomputable section

namespace Cert.KernelIdeal.Mine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- POINTS 1 TO 6. The Gram matrices and the row sums take one more chunk each; the chunk is copied into its rows of the feature scratch. -/
theorem run_chunk (c : Dev nD) (i : grid0.Coords) (arg1 : Memref sig .tc .vmem S1024x128 .f32) (harg1 : arg1.IsWhole) (arg2 : Memref sig .tc .vmem S4096x64 .f32) (harg2 : arg2.IsWhole) (arg3 : Memref sig .tc .vmem S1x1024x3 .f32) (harg3 : arg3.IsWhole) (arg4 : Memref sig .tc .vmem S1x1024x64 .f32) (harg4 : arg4.IsWhole) (arg5 : Memref sig .tc .vmem S1x2048x3 .f32) (harg5 : arg5.IsWhole) (arg6 : Memref sig .tc .vmem S64x128 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x1024x64 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S8192x128 .f32) (harg17 : arg17.IsWhole) (arg18 : Memref sig .tc .vmem S8192x64 .f32) (harg18 : arg18.IsWhole) (arg19 : Memref sig .tc .vmem S1x64 .f32) (harg19 : arg19.IsWhole) (arg20 : Memref sig .tc .vmem S1x64 .f32) (harg20 : arg20.IsWhole)
    (hc0 : ¬ (Scalar.cmpi .ne (Scalar.extui (Scalar.cmpi .eq (BitVec.ofNat 32 (i 0).val) 0#32)) 0#32) = 1#1) (hc1 : k0_cond2 i = 1#1) (hc2 : ¬ (Scalar.cmpi .ne (Scalar.extui (Scalar.cmpi .eq (BitVec.ofNat 32 (i 0).val) 7#32)) 0#32) = 1#1) (hc3 : ¬ k0_cond4 i = 1#1)
    (x1 : Vec F S1024x128 .f32) (x2 : Vec F S4096x64 .f32) (x3 : Vec F S1x1024x3 .f32) (x4 : Vec F S1x1024x64 .f32) (x5 : Vec F S1x2048x3 .f32) (x6 : Vec F S64x128 .f32) (x7 : Vec F S64x64 .f32) (x8 : Vec F S1x64 .f32) (x9 : Vec F S1x64 .f32) (x10 : Vec F S1x64 .f32) (x11 : Vec F S1x64 .f32) (x12 : Vec F S1x1024x64 .f32) (x13 : Vec F S128x128 .f32) (x14 : Vec F S1x128 .f32) (x15 : Vec F S64x64 .f32) (x16 : Vec F S1x64 .f32) (x17 : Vec F S8192x128 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (k0_pay14 x1 x13) ∗ owns (c : Thread nD τ) arg14 fullShare (k0_pay15 x1 x14) ∗ owns (c : Thread nD τ) arg15 fullShare (k0_pay16 x2 x15) ∗ owns (c : Thread nD τ) arg16 fullShare (k0_pay17 x2 x16) ∗ owns (c : Thread nD τ) arg17 fullShare (VecWindow.put x17 (k0_off1 i) S1024x128.size (k0_pay5 (k0_pay12 x1))) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__fused_kernel_eq_skeleton]; unfold cc0__fused_kernel_skel
  simp only [k0_part1_eq_skeleton, k0_part2_eq_skeleton, k0_part3_eq_skeleton, k0_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; swap; · iexact H13
    ipureintro
    (sl_unfold_run_names
     first
       | refine (View.read_writes_full _ _ _ _ _).trans ?_
       | refine (View.read_writes_cons_put _ _ _ _ _ rfl).trans ?_
     try simp only [(show View.readAt (Elt F) arg1.view (Rect.unit (s := S1024x128) ![0, 0] S1024x128.size inb_S1024x128_S1024x128_0_0).toLoadRect (harg1.unread x1) = x1 from (View.readAt_full _ _ _).trans (harg1.read_unread _)), (show View.readAt (Elt F) arg2.view (Rect.unit (s := S4096x64) ![0, 0] S4096x64.size inb_S4096x64_S4096x64_0_0).toLoadRect (harg2.unread x2) = x2 from (View.readAt_full _ _ _).trans (harg2.read_unread _)), (show View.readAt (Elt F) arg13.view (Rect.unit (s := S128x128) ![0, 0] S128x128.size inb_S128x128_S128x128_0_0).toLoadRect (harg13.unread x13) = x13 from (View.readAt_full _ _ _).trans (harg13.read_unread _)), (show View.readAt (Elt F) arg14.view (Rect.unit (s := S1x128) ![0, 0] S1x128.size inb_S1x128_S1x128_0_0).toLoadRect (harg14.unread x14) = x14 from (View.readAt_full _ _ _).trans (harg14.read_unread _)), (show View.readAt (Elt F) arg15.view (Rect.unit (s := S64x64) ![0, 0] S64x64.size inb_S64x64_S64x64_0_0).toLoadRect (harg15.unread x15) = x15 from (View.readAt_full _ _ _).trans (harg15.read_unread _)), (show View.readAt (Elt F) arg16.view (Rect.unit (s := S1x64) ![0, 0] S1x64.size inb_S1x64_S1x64_0_0).toLoadRect (harg16.unread x16) = x16 from (View.readAt_full _ _ _).trans (harg16.read_unread _)), View.writes_nil, Memref.IsWhole.read_unread, View.readAt_eq_ld])
  isplitl [H14]
  · iexists _; isplitr; swap; · iexact H14
    ipureintro
    (sl_unfold_run_names
     first
       | refine (View.read_writes_full _ _ _ _ _).trans ?_
       | refine (View.read_writes_cons_put _ _ _ _ _ rfl).trans ?_
     try simp only [(show View.readAt (Elt F) arg1.view (Rect.unit (s := S1024x128) ![0, 0] S1024x128.size inb_S1024x128_S1024x128_0_0).toLoadRect (harg1.unread x1) = x1 from (View.readAt_full _ _ _).trans (harg1.read_unread _)), (show View.readAt (Elt F) arg2.view (Rect.unit (s := S4096x64) ![0, 0] S4096x64.size inb_S4096x64_S4096x64_0_0).toLoadRect (harg2.unread x2) = x2 from (View.readAt_full _ _ _).trans (harg2.read_unread _)), (show View.readAt (Elt F) arg13.view (Rect.unit (s := S128x128) ![0, 0] S128x128.size inb_S128x128_S128x128_0_0).toLoadRect (harg13.unread x13) = x13 from (View.readAt_full _ _ _).trans (harg13.read_unread _)), (show View.readAt (Elt F) arg14.view (Rect.unit (s := S1x128) ![0, 0] S1x128.size inb_S1x128_S1x128_0_0).toLoadRect (harg14.unread x14) = x14 from (View.readAt_full _ _ _).trans (harg14.read_unread _)), (show View.readAt (Elt F) arg15.view (Rect.unit (s := S64x64) ![0, 0] S64x64.size inb_S64x64_S64x64_0_0).toLoadRect (harg15.unread x15) = x15 from (View.readAt_full _ _ _).trans (harg15.read_unread _)), (show View.readAt (Elt F) arg16.view (Rect.unit (s := S1x64) ![0, 0] S1x64.size inb_S1x64_S1x64_0_0).toLoadRect (harg16.unread x16) = x16 from (View.readAt_full _ _ _).trans (harg16.read_unread _)), View.writes_nil, Memref.IsWhole.read_unread, View.readAt_eq_ld])
  isplitl [H15]
  · iexists _; isplitr; swap; · iexact H15
    ipureintro
    (sl_unfold_run_names
     first
       | refine (View.read_writes_full _ _ _ _ _).trans ?_
       | refine (View.read_writes_cons_put _ _ _ _ _ rfl).trans ?_
     try simp only [(show View.readAt (Elt F) arg1.view (Rect.unit (s := S1024x128) ![0, 0] S1024x128.size inb_S1024x128_S1024x128_0_0).toLoadRect (harg1.unread x1) = x1 from (View.readAt_full _ _ _).trans (harg1.read_unread _)), (show View.readAt (Elt F) arg2.view (Rect.unit (s := S4096x64) ![0, 0] S4096x64.size inb_S4096x64_S4096x64_0_0).toLoadRect (harg2.unread x2) = x2 from (View.readAt_full _ _ _).trans (harg2.read_unread _)), (show View.readAt (Elt F) arg13.view (Rect.unit (s := S128x128) ![0, 0] S128x128.size inb_S128x128_S128x128_0_0).toLoadRect (harg13.unread x13) = x13 from (View.readAt_full _ _ _).trans (harg13.read_unread _)), (show View.readAt (Elt F) arg14.view (Rect.unit (s := S1x128) ![0, 0] S1x128.size inb_S1x128_S1x128_0_0).toLoadRect (harg14.unread x14) = x14 from (View.readAt_full _ _ _).trans (harg14.read_unread _)), (show View.readAt (Elt F) arg15.view (Rect.unit (s := S64x64) ![0, 0] S64x64.size inb_S64x64_S64x64_0_0).toLoadRect (harg15.unread x15) = x15 from (View.readAt_full _ _ _).trans (harg15.read_unread _)), (show View.readAt (Elt F) arg16.view (Rect.unit (s := S1x64) ![0, 0] S1x64.size inb_S1x64_S1x64_0_0).toLoadRect (harg16.unread x16) = x16 from (View.readAt_full _ _ _).trans (harg16.read_unread _)), View.writes_nil, Memref.IsWhole.read_unread, View.readAt_eq_ld])
  isplitl [H16]
  · iexists _; isplitr; swap; · iexact H16
    ipureintro
    (sl_unfold_run_names
     first
       | refine (View.read_writes_full _ _ _ _ _).trans ?_
       | refine (View.read_writes_cons_put _ _ _ _ _ rfl).trans ?_
     try simp only [(show View.readAt (Elt F) arg1.view (Rect.unit (s := S1024x128) ![0, 0] S1024x128.size inb_S1024x128_S1024x128_0_0).toLoadRect (harg1.unread x1) = x1 from (View.readAt_full _ _ _).trans (harg1.read_unread _)), (show View.readAt (Elt F) arg2.view (Rect.unit (s := S4096x64) ![0, 0] S4096x64.size inb_S4096x64_S4096x64_0_0).toLoadRect (harg2.unread x2) = x2 from (View.readAt_full _ _ _).trans (harg2.read_unread _)), (show View.readAt (Elt F) arg13.view (Rect.unit (s := S128x128) ![0, 0] S128x128.size inb_S128x128_S128x128_0_0).toLoadRect (harg13.unread x13) = x13 from (View.readAt_full _ _ _).trans (harg13.read_unread _)), (show View.readAt (Elt F) arg14.view (Rect.unit (s := S1x128) ![0, 0] S1x128.size inb_S1x128_S1x128_0_0).toLoadRect (harg14.unread x14) = x14 from (View.readAt_full _ _ _).trans (harg14.read_unread _)), (show View.readAt (Elt F) arg15.view (Rect.unit (s := S64x64) ![0, 0] S64x64.size inb_S64x64_S64x64_0_0).toLoadRect (harg15.unread x15) = x15 from (View.readAt_full _ _ _).trans (harg15.read_unread _)), (show View.readAt (Elt F) arg16.view (Rect.unit (s := S1x64) ![0, 0] S1x64.size inb_S1x64_S1x64_0_0).toLoadRect (harg16.unread x16) = x16 from (View.readAt_full _ _ _).trans (harg16.read_unread _)), View.writes_nil, Memref.IsWhole.read_unread, View.readAt_eq_ld])
  isplitl [H17]
  · iexists _; isplitr; swap; · iexact H17
    ipureintro
    (sl_unfold_run_names
     first
       | refine (View.read_writes_full _ _ _ _ _).trans ?_
       | refine (View.read_writes_cons_put _ _ _ _ _ rfl).trans ?_
     try simp only [(show View.readAt (Elt F) arg1.view (Rect.unit (s := S1024x128) ![0, 0] S1024x128.size inb_S1024x128_S1024x128_0_0).toLoadRect (harg1.unread x1) = x1 from (View.readAt_full _ _ _).trans (harg1.read_unread _)), (show View.readAt (Elt F) arg2.view (Rect.unit (s := S4096x64) ![0, 0] S4096x64.size inb_S4096x64_S4096x64_0_0).toLoadRect (harg2.unread x2) = x2 from (View.readAt_full _ _ _).trans (harg2.read_unread _)), (show View.readAt (Elt F) arg13.view (Rect.unit (s := S128x128) ![0, 0] S128x128.size inb_S128x128_S128x128_0_0).toLoadRect (harg13.unread x13) = x13 from (View.readAt_full _ _ _).trans (harg13.read_unread _)), (show View.readAt (Elt F) arg14.view (Rect.unit (s := S1x128) ![0, 0] S1x128.size inb_S1x128_S1x128_0_0).toLoadRect (harg14.unread x14) = x14 from (View.readAt_full _ _ _).trans (harg14.read_unread _)), (show View.readAt (Elt F) arg15.view (Rect.unit (s := S64x64) ![0, 0] S64x64.size inb_S64x64_S64x64_0_0).toLoadRect (harg15.unread x15) = x15 from (View.readAt_full _ _ _).trans (harg15.read_unread _)), (show View.readAt (Elt F) arg16.view (Rect.unit (s := S1x64) ![0, 0] S1x64.size inb_S1x64_S1x64_0_0).toLoadRect (harg16.unread x16) = x16 from (View.readAt_full _ _ _).trans (harg16.read_unread _)), View.writes_nil, Memref.IsWhole.read_unread, View.readAt_eq_ld])
  isplitl [H18]
  · iexists _, _; isplitr; swap; · iexact H18
    ipureintro; rfl
  isplitl [H19]
  · iexists _, _; isplitr; swap; · iexact H19
    ipureintro; rfl
  iexists _, _; isplitr; swap; · iexact H20
  ipureintro; rfl

end Cert.KernelIdeal.Mine

end
-- ==== Proof.Body.Last.lean ====
/- The kernel body at grid point 7, run from what its buffers hold to what it leaves. -/
module

public import proofs.«01_k».proof.Proof.Gen.KernelIdeal.Frame
public import proofs.«01_k».proof.Proof.Gen.KernelIdeal.Skeleton
public import proofs.«01_k».proof.Proof.Body.Chunk
public import Idealize.ShloMosaic.Lib.VecWindow
public import Idealize.ShloMosaic.Lib.Pipeline.Value

@[expose] public section

-- the stores' rectangles have long axes
set_option maxRecDepth 16384

noncomputable section

namespace Cert.KernelIdeal.Mine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- POINT 7. The last chunk is taken; then the two batch norms are folded into a scale and a shift per channel, and the transformed features of all coarse points are stored. -/
theorem run_last (c : Dev nD) (i : grid0.Coords) (arg1 : Memref sig .tc .vmem S1024x128 .f32) (harg1 : arg1.IsWhole) (arg2 : Memref sig .tc .vmem S4096x64 .f32) (harg2 : arg2.IsWhole) (arg3 : Memref sig .tc .vmem S1x1024x3 .f32) (harg3 : arg3.IsWhole) (arg4 : Memref sig .tc .vmem S1x1024x64 .f32) (harg4 : arg4.IsWhole) (arg5 : Memref sig .tc .vmem S1x2048x3 .f32) (harg5 : arg5.IsWhole) (arg6 : Memref sig .tc .vmem S64x128 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x1024x64 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S8192x128 .f32) (harg17 : arg17.IsWhole) (arg18 : Memref sig .tc .vmem S8192x64 .f32) (harg18 : arg18.IsWhole) (arg19 : Memref sig .tc .vmem S1x64 .f32) (harg19 : arg19.IsWhole) (arg20 : Memref sig .tc .vmem S1x64 .f32) (harg20 : arg20.IsWhole)
    (hc0 : ¬ (Scalar.cmpi .ne (Scalar.extui (Scalar.cmpi .eq (BitVec.ofNat 32 (i 0).val) 0#32)) 0#32) = 1#1) (hc1 : k0_cond2 i = 1#1) (hc2 : (Scalar.cmpi .ne (Scalar.extui (Scalar.cmpi .eq (BitVec.ofNat 32 (i 0).val) 7#32)) 0#32) = 1#1) (hc3 : ¬ k0_cond4 i = 1#1)
    (x1 : Vec F S1024x128 .f32) (x2 : Vec F S4096x64 .f32) (x3 : Vec F S1x1024x3 .f32) (x4 : Vec F S1x1024x64 .f32) (x5 : Vec F S1x2048x3 .f32) (x6 : Vec F S64x128 .f32) (x7 : Vec F S64x64 .f32) (x8 : Vec F S1x64 .f32) (x9 : Vec F S1x64 .f32) (x10 : Vec F S1x64 .f32) (x11 : Vec F S1x64 .f32) (x12 : Vec F S1x1024x64 .f32) (x13 : Vec F S128x128 .f32) (x14 : Vec F S1x128 .f32) (x15 : Vec F S64x64 .f32) (x16 : Vec F S1x64 .f32) (x17 : Vec F S8192x128 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (k0_pay14 x1 x13) ∗ owns (c : Thread nD τ) arg14 fullShare (k0_pay15 x1 x14) ∗ owns (c : Thread nD τ) arg15 fullShare (k0_pay16 x2 x15) ∗ owns (c : Thread nD τ) arg16 fullShare (k0_pay17 x2 x16) ∗ owns (c : Thread nD τ) arg17 fullShare (VecWindow.put x17 (k0_off1 i) S1024x128.size (k0_pay5 (k0_pay12 x1))) ∗ owns (c : Thread nD τ) arg18 fullShare (k0_pay10 (k0_pay19 (k0_pay14 x1 x13) (k0_pay15 x1 x14) x6 x8) (k0_pay20 (k0_pay14 x1 x13) (k0_pay15 x1 x14) x6 x8 x9) (VecWindow.put x17 (k0_off1 i) S1024x128.size (k0_pay5 (k0_pay12 x1))) x6) ∗ owns (c : Thread nD τ) arg19 fullShare (k0_pay8 (k0_pay16 x2 x15) (k0_pay17 x2 x16) x7 (k0_pay21 x10) (k0_pay23 (F := F))) ∗ owns (c : Thread nD τ) arg20 fullShare (k0_pay9 (k0_pay16 x2 x15) (k0_pay17 x2 x16) x7 (k0_pay21 x10) (k0_pay22 x11) (k0_pay23 (F := F)))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__fused_kernel_eq_skeleton]; unfold cc0__fused_kernel_skel
  simp only [k0_part1_eq_skeleton, k0_part2_eq_skeleton, k0_part3_eq_skeleton, k0_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; swap; · iexact H13
    ipureintro
    (sl_unfold_run_names
     first
       | refine (View.read_writes_full _ _ _ _ _).trans ?_
       | refine (View.read_writes_cons_put _ _ _ _ _ rfl).trans ?_
     try simp only [(show View.readAt (Elt F) arg1.view (Rect.unit (s := S1024x128) ![0, 0] S1024x128.size inb_S1024x128_S1024x128_0_0).toLoadRect (harg1.unread x1) = x1 from (View.readAt_full _ _ _).trans (harg1.read_unread _)), (show View.readAt (Elt F) arg2.view (Rect.unit (s := S4096x64) ![0, 0] S4096x64.size inb_S4096x64_S4096x64_0_0).toLoadRect (harg2.unread x2) = x2 from (View.readAt_full _ _ _).trans (harg2.read_unread _)), (show View.readAt (Elt F) arg6.view (Rect.unit (s := S64x128) ![0, 0] S64x128.size inb_S64x128_S64x128_0_0).toLoadRect (harg6.unread x6) = x6 from (View.readAt_full _ _ _).trans (harg6.read_unread _)), (show View.readAt (Elt F) arg7.view (Rect.unit (s := S64x64) ![0, 0] S64x64.size inb_S64x64_S64x64_0_0).toLoadRect (harg7.unread x7) = x7 from (View.readAt_full _ _ _).trans (harg7.read_unread _)), (show View.readAt (Elt F) arg8.view (Rect.unit (s := S1x64) ![0, 0] S1x64.size inb_S1x64_S1x64_0_0).toLoadRect (harg8.unread x8) = x8 from (View.readAt_full _ _ _).trans (harg8.read_unread _)), (show View.readAt (Elt F) arg9.view (Rect.unit (s := S1x64) ![0, 0] S1x64.size inb_S1x64_S1x64_0_0).toLoadRect (harg9.unread x9) = x9 from (View.readAt_full _ _ _).trans (harg9.read_unread _)), (show View.readAt (Elt F) arg10.view (Rect.unit (s := S1x64) ![0, 0] S1x64.size inb_S1x64_S1x64_0_0).toLoadRect (harg10.unread x10) = x10 from (View.readAt_full _ _ _).trans (harg10.read_unread _)), (show View.readAt (Elt F) arg11.view (Rect.unit (s := S1x64) ![0, 0] S1x64.size inb_S1x64_S1x64_0_0).toLoadRect (harg11.unread x11) = x11 from (View.readAt_full _ _ _).trans (harg11.read_unread _)), (show View.readAt (Elt F) arg13.view (Rect.unit (s := S128x128) ![0, 0] S128x128.size inb_S128x128_S128x128_0_0).toLoadRect (harg13.unread x13) = x13 from (View.readAt_full _ _ _).trans (harg13.read_unread _)), (show View.readAt (Elt F) arg14.view (Rect.unit (s := S1x128) ![0, 0] S1x128.size inb_S1x128_S1x128_0_0).toLoadRect (harg14.unread x14) = x14 from (View.readAt_full _ _ _).trans (harg14.read_unread _)), (show View.readAt (Elt F) arg15.view (Rect.unit (s := S64x64) ![0, 0] S64x64.size inb_S64x64_S64x64_0_0).toLoadRect (harg15.unread x15) = x15 from (View.readAt_full _ _ _).trans (harg15.read_unread _)), (show View.readAt (Elt F) arg16.view (Rect.unit (s := S1x64) ![0, 0] S1x64.size inb_S1x64_S1x64_0_0).toLoadRect (harg16.unread x16) = x16 from (View.readAt_full _ _ _).trans (harg16.read_unread _)), (show ∀ w, arg13.view.readCov (Val := Elt F) [⟨(Rect.unit (s := S128x128) ![0, 0] S128x128.size inb_S128x128_S128x128_0_0), w⟩] (Rect.unit (s := S128x128) ![0, 0] S128x128.size inb_S128x128_S128x128_0_0).toLoadRect = w from fun w => View.readCov_full _ _ _ _ _), (show ∀ w, arg14.view.readCov (Val := Elt F) [⟨(Rect.unit (s := S1x128) ![0, 0] S1x128.size inb_S1x128_S1x128_0_0), w⟩] (Rect.unit (s := S1x128) ![0, 0] S1x128.size inb_S1x128_S1x128_0_0).toLoadRect = w from fun w => View.readCov_full _ _ _ _ _), (show ∀ w, arg15.view.readCov (Val := Elt F) [⟨(Rect.unit (s := S64x64) ![0, 0] S64x64.size inb_S64x64_S64x64_0_0), w⟩] (Rect.unit (s := S64x64) ![0, 0] S64x64.size inb_S64x64_S64x64_0_0).toLoadRect = w from fun w => View.readCov_full _ _ _ _ _), (show ∀ w, arg16.view.readCov (Val := Elt F) [⟨(Rect.unit (s := S1x64) ![0, 0] S1x64.size inb_S1x64_S1x64_0_0), w⟩] (Rect.unit (s := S1x64) ![0, 0] S1x64.size inb_S1x64_S1x64_0_0).toLoadRect = w from fun w => View.readCov_full _ _ _ _ _), (show ∀ w, View.readAt (Elt F) arg17.view (Rect.unit (s := S8192x128) ![0, 0] S8192x128.size inb_S8192x128_S8192x128_0_0).toLoadRect (arg17.view.writes (Elt F) (harg17.unread x17) [⟨Rect.unit (s := S8192x128) (k0_off1 i) S1024x128.size (k0_off1_inb i hc1), w⟩]) = VecWindow.put x17 (k0_off1 i) S1024x128.size w from fun w => (View.readAt_full _ _ _).trans ((View.read_writes_cons_put _ _ _ _ _ rfl).trans (by rw [View.writes_nil, harg17.read_unread]))), View.writes_nil, Memref.IsWhole.read_unread, View.readAt_eq_ld])
  isplitl [H14]
  · iexists _; isplitr; swap; · iexact H14
    ipureintro
    (sl_unfold_run_names
     first
       | refine (View.read_writes_full _ _ _ _ _).trans ?_
       | refine (View.read_writes_cons_put _ _ _ _ _ rfl).trans ?_
     try simp only [(show View.readAt (Elt F) arg1.view (Rect.unit (s := S1024x128) ![0, 0] S1024x128.size inb_S1024x128_S1024x128_0_0).toLoadRect (harg1.unread x1) = x1 from (View.readAt_full _ _ _).trans (harg1.read_unread _)), (show View.readAt (Elt F) arg2.view (Rect.unit (s := S4096x64) ![0, 0] S4096x64.size inb_S4096x64_S4096x64_0_0).toLoadRect (harg2.unread x2) = x2 from (View.readAt_full _ _ _).trans (harg2.read_unread _)), (show View.readAt (Elt F) arg6.view (Rect.unit (s := S64x128) ![0, 0] S64x128.size inb_S64x128_S64x128_0_0).toLoadRect (harg6.unread x6) = x6 from (View.readAt_full _ _ _).trans (harg6.read_unread _)), (show View.readAt (Elt F) arg7.view (Rect.unit (s := S64x64) ![0, 0] S64x64.size inb_S64x64_S64x64_0_0).toLoadRect (harg7.unread x7) = x7 from (View.readAt_full _ _ _).trans (harg7.read_unread _)), (show View.readAt (Elt F) arg8.view (Rect.unit (s := S1x64) ![0, 0] S1x64.size inb_S1x64_S1x64_0_0).toLoadRect (harg8.unread x8) = x8 from (View.readAt_full _ _ _).trans (harg8.read_unread _)), (show View.readAt (Elt F) arg9.view (Rect.unit (s := S1x64) ![0, 0] S1x64.size inb_S1x64_S1x64_0_0).toLoadRect (harg9.unread x9) = x9 from (View.readAt_full _ _ _).trans (harg9.read_unread _)), (show View.readAt (Elt F) arg10.view (Rect.unit (s := S1x64) ![0, 0] S1x64.size inb_S1x64_S1x64_0_0).toLoadRect (harg10.unread x10) = x10 from (View.readAt_full _ _ _).trans (harg10.read_unread _)), (show View.readAt (Elt F) arg11.view (Rect.unit (s := S1x64) ![0, 0] S1x64.size inb_S1x64_S1x64_0_0).toLoadRect (harg11.unread x11) = x11 from (View.readAt_full _ _ _).trans (harg11.read_unread _)), (show View.readAt (Elt F) arg13.view (Rect.unit (s := S128x128) ![0, 0] S128x128.size inb_S128x128_S128x128_0_0).toLoadRect (harg13.unread x13) = x13 from (View.readAt_full _ _ _).trans (harg13.read_unread _)), (show View.readAt (Elt F) arg14.view (Rect.unit (s := S1x128) ![0, 0] S1x128.size inb_S1x128_S1x128_0_0).toLoadRect (harg14.unread x14) = x14 from (View.readAt_full _ _ _).trans (harg14.read_unread _)), (show View.readAt (Elt F) arg15.view (Rect.unit (s := S64x64) ![0, 0] S64x64.size inb_S64x64_S64x64_0_0).toLoadRect (harg15.unread x15) = x15 from (View.readAt_full _ _ _).trans (harg15.read_unread _)), (show View.readAt (Elt F) arg16.view (Rect.unit (s := S1x64) ![0, 0] S1x64.size inb_S1x64_S1x64_0_0).toLoadRect (harg16.unread x16) = x16 from (View.readAt_full _ _ _).trans (harg16.read_unread _)), (show ∀ w, arg13.view.readCov (Val := Elt F) [⟨(Rect.unit (s := S128x128) ![0, 0] S128x128.size inb_S128x128_S128x128_0_0), w⟩] (Rect.unit (s := S128x128) ![0, 0] S128x128.size inb_S128x128_S128x128_0_0).toLoadRect = w from fun w => View.readCov_full _ _ _ _ _), (show ∀ w, arg14.view.readCov (Val := Elt F) [⟨(Rect.unit (s := S1x128) ![0, 0] S1x128.size inb_S1x128_S1x128_0_0), w⟩] (Rect.unit (s := S1x128) ![0, 0] S1x128.size inb_S1x128_S1x128_0_0).toLoadRect = w from fun w => View.readCov_full _ _ _ _ _), (show ∀ w, arg15.view.readCov (Val := Elt F) [⟨(Rect.unit (s := S64x64) ![0, 0] S64x64.size inb_S64x64_S64x64_0_0), w⟩] (Rect.unit (s := S64x64) ![0, 0] S64x64.size inb_S64x64_S64x64_0_0).toLoadRect = w from fun w => View.readCov_full _ _ _ _ _), (show ∀ w, arg16.view.readCov (Val := Elt F) [⟨(Rect.unit (s := S1x64) ![0, 0] S1x64.size inb_S1x64_S1x64_0_0), w⟩] (Rect.unit (s := S1x64) ![0, 0] S1x64.size inb_S1x64_S1x64_0_0).toLoadRect = w from fun w => View.readCov_full _ _ _ _ _), (show ∀ w, View.readAt (Elt F) arg17.view (Rect.unit (s := S8192x128) ![0, 0] S8192x128.size inb_S8192x128_S8192x128_0_0).toLoadRect (arg17.view.writes (Elt F) (harg17.unread x17) [⟨Rect.unit (s := S8192x128) (k0_off1 i) S1024x128.size (k0_off1_inb i hc1), w⟩]) = VecWindow.put x17 (k0_off1 i) S1024x128.size w from fun w => (View.readAt_full _ _ _).trans ((View.read_writes_cons_put _ _ _ _ _ rfl).trans (by rw [View.writes_nil, harg17.read_unread]))), View.writes_nil, Memref.IsWhole.read_unread, View.readAt_eq_ld])
  isplitl [H15]
  · iexists _; isplitr; swap; · iexact H15
    ipureintro
    (sl_unfold_run_names
     first
       | refine (View.read_writes_full _ _ _ _ _).trans ?_
       | refine (View.read_writes_cons_put _ _ _ _ _ rfl).trans ?_
     try simp only [(show View.readAt (Elt F) arg1.view (Rect.unit (s := S1024x128) ![0, 0] S1024x128.size inb_S1024x128_S1024x128_0_0).toLoadRect (harg1.unread x1) = x1 from (View.readAt_full _ _ _).trans (harg1.read_unread _)), (show View.readAt (Elt F) arg2.view (Rect.unit (s := S4096x64) ![0, 0] S4096x64.size inb_S4096x64_S4096x64_0_0).toLoadRect (harg2.unread x2) = x2 from (View.readAt_full _ _ _).trans (harg2.read_unread _)), (show View.readAt (Elt F) arg6.view (Rect.unit (s := S64x128) ![0, 0] S64x128.size inb_S64x128_S64x128_0_0).toLoadRect (harg6.unread x6) = x6 from (View.readAt_full _ _ _).trans (harg6.read_unread _)), (show View.readAt (Elt F) arg7.view (Rect.unit (s := S64x64) ![0, 0] S64x64.size inb_S64x64_S64x64_0_0).toLoadRect (harg7.unread x7) = x7 from (View.readAt_full _ _ _).trans (harg7.read_unread _)), (show View.readAt (Elt F) arg8.view (Rect.unit (s := S1x64) ![0, 0] S1x64.size inb_S1x64_S1x64_0_0).toLoadRect (harg8.unread x8) = x8 from (View.readAt_full _ _ _).trans (harg8.read_unread _)), (show View.readAt (Elt F) arg9.view (Rect.unit (s := S1x64) ![0, 0] S1x64.size inb_S1x64_S1x64_0_0).toLoadRect (harg9.unread x9) = x9 from (View.readAt_full _ _ _).trans (harg9.read_unread _)), (show View.readAt (Elt F) arg10.view (Rect.unit (s := S1x64) ![0, 0] S1x64.size inb_S1x64_S1x64_0_0).toLoadRect (harg10.unread x10) = x10 from (View.readAt_full _ _ _).trans (harg10.read_unread _)), (show View.readAt (Elt F) arg11.view (Rect.unit (s := S1x64) ![0, 0] S1x64.size inb_S1x64_S1x64_0_0).toLoadRect (harg11.unread x11) = x11 from (View.readAt_full _ _ _).trans (harg11.read_unread _)), (show View.readAt (Elt F) arg13.view (Rect.unit (s := S128x128) ![0, 0] S128x128.size inb_S128x128_S128x128_0_0).toLoadRect (harg13.unread x13) = x13 from (View.readAt_full _ _ _).trans (harg13.read_unread _)), (show View.readAt (Elt F) arg14.view (Rect.unit (s := S1x128) ![0, 0] S1x128.size inb_S1x128_S1x128_0_0).toLoadRect (harg14.unread x14) = x14 from (View.readAt_full _ _ _).trans (harg14.read_unread _)), (show View.readAt (Elt F) arg15.view (Rect.unit (s := S64x64) ![0, 0] S64x64.size inb_S64x64_S64x64_0_0).toLoadRect (harg15.unread x15) = x15 from (View.readAt_full _ _ _).trans (harg15.read_unread _)), (show View.readAt (Elt F) arg16.view (Rect.unit (s := S1x64) ![0, 0] S1x64.size inb_S1x64_S1x64_0_0).toLoadRect (harg16.unread x16) = x16 from (View.readAt_full _ _ _).trans (harg16.read_unread _)), (show ∀ w, arg13.view.readCov (Val := Elt F) [⟨(Rect.unit (s := S128x128) ![0, 0] S128x128.size inb_S128x128_S128x128_0_0), w⟩] (Rect.unit (s := S128x128) ![0, 0] S128x128.size inb_S128x128_S128x128_0_0).toLoadRect = w from fun w => View.readCov_full _ _ _ _ _), (show ∀ w, arg14.view.readCov (Val := Elt F) [⟨(Rect.unit (s := S1x128) ![0, 0] S1x128.size inb_S1x128_S1x128_0_0), w⟩] (Rect.unit (s := S1x128) ![0, 0] S1x128.size inb_S1x128_S1x128_0_0).toLoadRect = w from fun w => View.readCov_full _ _ _ _ _), (show ∀ w, arg15.view.readCov (Val := Elt F) [⟨(Rect.unit (s := S64x64) ![0, 0] S64x64.size inb_S64x64_S64x64_0_0), w⟩] (Rect.unit (s := S64x64) ![0, 0] S64x64.size inb_S64x64_S64x64_0_0).toLoadRect = w from fun w => View.readCov_full _ _ _ _ _), (show ∀ w, arg16.view.readCov (Val := Elt F) [⟨(Rect.unit (s := S1x64) ![0, 0] S1x64.size inb_S1x64_S1x64_0_0), w⟩] (Rect.unit (s := S1x64) ![0, 0] S1x64.size inb_S1x64_S1x64_0_0).toLoadRect = w from fun w => View.readCov_full _ _ _ _ _), (show ∀ w, View.readAt (Elt F) arg17.view (Rect.unit (s := S8192x128) ![0, 0] S8192x128.size inb_S8192x128_S8192x128_0_0).toLoadRect (arg17.view.writes (Elt F) (harg17.unread x17) [⟨Rect.unit (s := S8192x128) (k0_off1 i) S1024x128.size (k0_off1_inb i hc1), w⟩]) = VecWindow.put x17 (k0_off1 i) S1024x128.size w from fun w => (View.readAt_full _ _ _).trans ((View.read_writes_cons_put _ _ _ _ _ rfl).trans (by rw [View.writes_nil, harg17.read_unread]))), View.writes_nil, Memref.IsWhole.read_unread, View.readAt_eq_ld])
  isplitl [H16]
  · iexists _; isplitr; swap; · iexact H16
    ipureintro
    (sl_unfold_run_names
     first
       | refine (View.read_writes_full _ _ _ _ _).trans ?_
       | refine (View.read_writes_cons_put _ _ _ _ _ rfl).trans ?_
     try simp only [(show View.readAt (Elt F) arg1.view (Rect.unit (s := S1024x128) ![0, 0] S1024x128.size inb_S1024x128_S1024x128_0_0).toLoadRect (harg1.unread x1) = x1 from (View.readAt_full _ _ _).trans (harg1.read_unread _)), (show View.readAt (Elt F) arg2.view (Rect.unit (s := S4096x64) ![0, 0] S4096x64.size inb_S4096x64_S4096x64_0_0).toLoadRect (harg2.unread x2) = x2 from (View.readAt_full _ _ _).trans (harg2.read_unread _)), (show View.readAt (Elt F) arg6.view (Rect.unit (s := S64x128) ![0, 0] S64x128.size inb_S64x128_S64x128_0_0).toLoadRect (harg6.unread x6) = x6 from (View.readAt_full _ _ _).trans (harg6.read_unread _)), (show View.readAt (Elt F) arg7.view (Rect.unit (s := S64x64) ![0, 0] S64x64.size inb_S64x64_S64x64_0_0).toLoadRect (harg7.unread x7) = x7 from (View.readAt_full _ _ _).trans (harg7.read_unread _)), (show View.readAt (Elt F) arg8.view (Rect.unit (s := S1x64) ![0, 0] S1x64.size inb_S1x64_S1x64_0_0).toLoadRect (harg8.unread x8) = x8 from (View.readAt_full _ _ _).trans (harg8.read_unread _)), (show View.readAt (Elt F) arg9.view (Rect.unit (s := S1x64) ![0, 0] S1x64.size inb_S1x64_S1x64_0_0).toLoadRect (harg9.unread x9) = x9 from (View.readAt_full _ _ _).trans (harg9.read_unread _)), (show View.readAt (Elt F) arg10.view (Rect.unit (s := S1x64) ![0, 0] S1x64.size inb_S1x64_S1x64_0_0).toLoadRect (harg10.unread x10) = x10 from (View.readAt_full _ _ _).trans (harg10.read_unread _)), (show View.readAt (Elt F) arg11.view (Rect.unit (s := S1x64) ![0, 0] S1x64.size inb_S1x64_S1x64_0_0).toLoadRect (harg11.unread x11) = x11 from (View.readAt_full _ _ _).trans (harg11.read_unread _)), (show View.readAt (Elt F) arg13.view (Rect.unit (s := S128x128) ![0, 0] S128x128.size inb_S128x128_S128x128_0_0).toLoadRect (harg13.unread x13) = x13 from (View.readAt_full _ _ _).trans (harg13.read_unread _)), (show View.readAt (Elt F) arg14.view (Rect.unit (s := S1x128) ![0, 0] S1x128.size inb_S1x128_S1x128_0_0).toLoadRect (harg14.unread x14) = x14 from (View.readAt_full _ _ _).trans (harg14.read_unread _)), (show View.readAt (Elt F) arg15.view (Rect.unit (s := S64x64) ![0, 0] S64x64.size inb_S64x64_S64x64_0_0).toLoadRect (harg15.unread x15) = x15 from (View.readAt_full _ _ _).trans (harg15.read_unread _)), (show View.readAt (Elt F) arg16.view (Rect.unit (s := S1x64) ![0, 0] S1x64.size inb_S1x64_S1x64_0_0).toLoadRect (harg16.unread x16) = x16 from (View.readAt_full _ _ _).trans (harg16.read_unread _)), (show ∀ w, arg13.view.readCov (Val := Elt F) [⟨(Rect.unit (s := S128x128) ![0, 0] S128x128.size inb_S128x128_S128x128_0_0), w⟩] (Rect.unit (s := S128x128) ![0, 0] S128x128.size inb_S128x128_S128x128_0_0).toLoadRect = w from fun w => View.readCov_full _ _ _ _ _), (show ∀ w, arg14.view.readCov (Val := Elt F) [⟨(Rect.unit (s := S1x128) ![0, 0] S1x128.size inb_S1x128_S1x128_0_0), w⟩] (Rect.unit (s := S1x128) ![0, 0] S1x128.size inb_S1x128_S1x128_0_0).toLoadRect = w from fun w => View.readCov_full _ _ _ _ _), (show ∀ w, arg15.view.readCov (Val := Elt F) [⟨(Rect.unit (s := S64x64) ![0, 0] S64x64.size inb_S64x64_S64x64_0_0), w⟩] (Rect.unit (s := S64x64) ![0, 0] S64x64.size inb_S64x64_S64x64_0_0).toLoadRect = w from fun w => View.readCov_full _ _ _ _ _), (show ∀ w, arg16.view.readCov (Val := Elt F) [⟨(Rect.unit (s := S1x64) ![0, 0] S1x64.size inb_S1x64_S1x64_0_0), w⟩] (Rect.unit (s := S1x64) ![0, 0] S1x64.size inb_S1x64_S1x64_0_0).toLoadRect = w from fun w => View.readCov_full _ _ _ _ _), (show ∀ w, View.readAt (Elt F) arg17.view (Rect.unit (s := S8192x128) ![0, 0] S8192x128.size inb_S8192x128_S8192x128_0_0).toLoadRect (arg17.view.writes (Elt F) (harg17.unread x17) [⟨Rect.unit (s := S8192x128) (k0_off1 i) S1024x128.size (k0_off1_inb i hc1), w⟩]) = VecWindow.put x17 (k0_off1 i) S1024x128.size w from fun w => (View.readAt_full _ _ _).trans ((View.read_writes_cons_put _ _ _ _ _ rfl).trans (by rw [View.writes_nil, harg17.read_unread]))), View.writes_nil, Memref.IsWhole.read_unread, View.readAt_eq_ld])
  isplitl [H17]
  · iexists _; isplitr; swap; · iexact H17
    ipureintro
    (sl_unfold_run_names
     first
       | refine (View.read_writes_full _ _ _ _ _).trans ?_
       | refine (View.read_writes_cons_put _ _ _ _ _ rfl).trans ?_
     try simp only [(show View.readAt (Elt F) arg1.view (Rect.unit (s := S1024x128) ![0, 0] S1024x128.size inb_S1024x128_S1024x128_0_0).toLoadRect (harg1.unread x1) = x1 from (View.readAt_full _ _ _).trans (harg1.read_unread _)), (show View.readAt (Elt F) arg2.view (Rect.unit (s := S4096x64) ![0, 0] S4096x64.size inb_S4096x64_S4096x64_0_0).toLoadRect (harg2.unread x2) = x2 from (View.readAt_full _ _ _).trans (harg2.read_unread _)), (show View.readAt (Elt F) arg6.view (Rect.unit (s := S64x128) ![0, 0] S64x128.size inb_S64x128_S64x128_0_0).toLoadRect (harg6.unread x6) = x6 from (View.readAt_full _ _ _).trans (harg6.read_unread _)), (show View.readAt (Elt F) arg7.view (Rect.unit (s := S64x64) ![0, 0] S64x64.size inb_S64x64_S64x64_0_0).toLoadRect (harg7.unread x7) = x7 from (View.readAt_full _ _ _).trans (harg7.read_unread _)), (show View.readAt (Elt F) arg8.view (Rect.unit (s := S1x64) ![0, 0] S1x64.size inb_S1x64_S1x64_0_0).toLoadRect (harg8.unread x8) = x8 from (View.readAt_full _ _ _).trans (harg8.read_unread _)), (show View.readAt (Elt F) arg9.view (Rect.unit (s := S1x64) ![0, 0] S1x64.size inb_S1x64_S1x64_0_0).toLoadRect (harg9.unread x9) = x9 from (View.readAt_full _ _ _).trans (harg9.read_unread _)), (show View.readAt (Elt F) arg10.view (Rect.unit (s := S1x64) ![0, 0] S1x64.size inb_S1x64_S1x64_0_0).toLoadRect (harg10.unread x10) = x10 from (View.readAt_full _ _ _).trans (harg10.read_unread _)), (show View.readAt (Elt F) arg11.view (Rect.unit (s := S1x64) ![0, 0] S1x64.size inb_S1x64_S1x64_0_0).toLoadRect (harg11.unread x11) = x11 from (View.readAt_full _ _ _).trans (harg11.read_unread _)), (show View.readAt (Elt F) arg13.view (Rect.unit (s := S128x128) ![0, 0] S128x128.size inb_S128x128_S128x128_0_0).toLoadRect (harg13.unread x13) = x13 from (View.readAt_full _ _ _).trans (harg13.read_unread _)), (show View.readAt (Elt F) arg14.view (Rect.unit (s := S1x128) ![0, 0] S1x128.size inb_S1x128_S1x128_0_0).toLoadRect (harg14.unread x14) = x14 from (View.readAt_full _ _ _).trans (harg14.read_unread _)), (show View.readAt (Elt F) arg15.view (Rect.unit (s := S64x64) ![0, 0] S64x64.size inb_S64x64_S64x64_0_0).toLoadRect (harg15.unread x15) = x15 from (View.readAt_full _ _ _).trans (harg15.read_unread _)), (show View.readAt (Elt F) arg16.view (Rect.unit (s := S1x64) ![0, 0] S1x64.size inb_S1x64_S1x64_0_0).toLoadRect (harg16.unread x16) = x16 from (View.readAt_full _ _ _).trans (harg16.read_unread _)), (show ∀ w, arg13.view.readCov (Val := Elt F) [⟨(Rect.unit (s := S128x128) ![0, 0] S128x128.size inb_S128x128_S128x128_0_0), w⟩] (Rect.unit (s := S128x128) ![0, 0] S128x128.size inb_S128x128_S128x128_0_0).toLoadRect = w from fun w => View.readCov_full _ _ _ _ _), (show ∀ w, arg14.view.readCov (Val := Elt F) [⟨(Rect.unit (s := S1x128) ![0, 0] S1x128.size inb_S1x128_S1x128_0_0), w⟩] (Rect.unit (s := S1x128) ![0, 0] S1x128.size inb_S1x128_S1x128_0_0).toLoadRect = w from fun w => View.readCov_full _ _ _ _ _), (show ∀ w, arg15.view.readCov (Val := Elt F) [⟨(Rect.unit (s := S64x64) ![0, 0] S64x64.size inb_S64x64_S64x64_0_0), w⟩] (Rect.unit (s := S64x64) ![0, 0] S64x64.size inb_S64x64_S64x64_0_0).toLoadRect = w from fun w => View.readCov_full _ _ _ _ _), (show ∀ w, arg16.view.readCov (Val := Elt F) [⟨(Rect.unit (s := S1x64) ![0, 0] S1x64.size inb_S1x64_S1x64_0_0), w⟩] (Rect.unit (s := S1x64) ![0, 0] S1x64.size inb_S1x64_S1x64_0_0).toLoadRect = w from fun w => View.readCov_full _ _ _ _ _), (show ∀ w, View.readAt (Elt F) arg17.view (Rect.unit (s := S8192x128) ![0, 0] S8192x128.size inb_S8192x128_S8192x128_0_0).toLoadRect (arg17.view.writes (Elt F) (harg17.unread x17) [⟨Rect.unit (s := S8192x128) (k0_off1 i) S1024x128.size (k0_off1_inb i hc1), w⟩]) = VecWindow.put x17 (k0_off1 i) S1024x128.size w from fun w => (View.readAt_full _ _ _).trans ((View.read_writes_cons_put _ _ _ _ _ rfl).trans (by rw [View.writes_nil, harg17.read_unread]))), View.writes_nil, Memref.IsWhole.read_unread, View.readAt_eq_ld])
  isplitl [H18]
  · iexists _; isplitr; swap; · iexact H18
    ipureintro
    (sl_unfold_run_names
     first
       | refine (View.read_writes_full _ _ _ _ _).trans ?_
       | refine (View.read_writes_cons_put _ _ _ _ _ rfl).trans ?_
     try simp only [(show View.readAt (Elt F) arg1.view (Rect.unit (s := S1024x128) ![0, 0] S1024x128.size inb_S1024x128_S1024x128_0_0).toLoadRect (harg1.unread x1) = x1 from (View.readAt_full _ _ _).trans (harg1.read_unread _)), (show View.readAt (Elt F) arg2.view (Rect.unit (s := S4096x64) ![0, 0] S4096x64.size inb_S4096x64_S4096x64_0_0).toLoadRect (harg2.unread x2) = x2 from (View.readAt_full _ _ _).trans (harg2.read_unread _)), (show View.readAt (Elt F) arg6.view (Rect.unit (s := S64x128) ![0, 0] S64x128.size inb_S64x128_S64x128_0_0).toLoadRect (harg6.unread x6) = x6 from (View.readAt_full _ _ _).trans (harg6.read_unread _)), (show View.readAt (Elt F) arg7.view (Rect.unit (s := S64x64) ![0, 0] S64x64.size inb_S64x64_S64x64_0_0).toLoadRect (harg7.unread x7) = x7 from (View.readAt_full _ _ _).trans (harg7.read_unread _)), (show View.readAt (Elt F) arg8.view (Rect.unit (s := S1x64) ![0, 0] S1x64.size inb_S1x64_S1x64_0_0).toLoadRect (harg8.unread x8) = x8 from (View.readAt_full _ _ _).trans (harg8.read_unread _)), (show View.readAt (Elt F) arg9.view (Rect.unit (s := S1x64) ![0, 0] S1x64.size inb_S1x64_S1x64_0_0).toLoadRect (harg9.unread x9) = x9 from (View.readAt_full _ _ _).trans (harg9.read_unread _)), (show View.readAt (Elt F) arg10.view (Rect.unit (s := S1x64) ![0, 0] S1x64.size inb_S1x64_S1x64_0_0).toLoadRect (harg10.unread x10) = x10 from (View.readAt_full _ _ _).trans (harg10.read_unread _)), (show View.readAt (Elt F) arg11.view (Rect.unit (s := S1x64) ![0, 0] S1x64.size inb_S1x64_S1x64_0_0).toLoadRect (harg11.unread x11) = x11 from (View.readAt_full _ _ _).trans (harg11.read_unread _)), (show View.readAt (Elt F) arg13.view (Rect.unit (s := S128x128) ![0, 0] S128x128.size inb_S128x128_S128x128_0_0).toLoadRect (harg13.unread x13) = x13 from (View.readAt_full _ _ _).trans (harg13.read_unread _)), (show View.readAt (Elt F) arg14.view (Rect.unit (s := S1x128) ![0, 0] S1x128.size inb_S1x128_S1x128_0_0).toLoadRect (harg14.unread x14) = x14 from (View.readAt_full _ _ _).trans (harg14.read_unread _)), (show View.readAt (Elt F) arg15.view (Rect.unit (s := S64x64) ![0, 0] S64x64.size inb_S64x64_S64x64_0_0).toLoadRect (harg15.unread x15) = x15 from (View.readAt_full _ _ _).trans (harg15.read_unread _)), (show View.readAt (Elt F) arg16.view (Rect.unit (s := S1x64) ![0, 0] S1x64.size inb_S1x64_S1x64_0_0).toLoadRect (harg16.unread x16) = x16 from (View.readAt_full _ _ _).trans (harg16.read_unread _)), (show ∀ w, arg13.view.readCov (Val := Elt F) [⟨(Rect.unit (s := S128x128) ![0, 0] S128x128.size inb_S128x128_S128x128_0_0), w⟩] (Rect.unit (s := S128x128) ![0, 0] S128x128.size inb_S128x128_S128x128_0_0).toLoadRect = w from fun w => View.readCov_full _ _ _ _ _), (show ∀ w, arg14.view.readCov (Val := Elt F) [⟨(Rect.unit (s := S1x128) ![0, 0] S1x128.size inb_S1x128_S1x128_0_0), w⟩] (Rect.unit (s := S1x128) ![0, 0] S1x128.size inb_S1x128_S1x128_0_0).toLoadRect = w from fun w => View.readCov_full _ _ _ _ _), (show ∀ w, arg15.view.readCov (Val := Elt F) [⟨(Rect.unit (s := S64x64) ![0, 0] S64x64.size inb_S64x64_S64x64_0_0), w⟩] (Rect.unit (s := S64x64) ![0, 0] S64x64.size inb_S64x64_S64x64_0_0).toLoadRect = w from fun w => View.readCov_full _ _ _ _ _), (show ∀ w, arg16.view.readCov (Val := Elt F) [⟨(Rect.unit (s := S1x64) ![0, 0] S1x64.size inb_S1x64_S1x64_0_0), w⟩] (Rect.unit (s := S1x64) ![0, 0] S1x64.size inb_S1x64_S1x64_0_0).toLoadRect = w from fun w => View.readCov_full _ _ _ _ _), (show ∀ w, View.readAt (Elt F) arg17.view (Rect.unit (s := S8192x128) ![0, 0] S8192x128.size inb_S8192x128_S8192x128_0_0).toLoadRect (arg17.view.writes (Elt F) (harg17.unread x17) [⟨Rect.unit (s := S8192x128) (k0_off1 i) S1024x128.size (k0_off1_inb i hc1), w⟩]) = VecWindow.put x17 (k0_off1 i) S1024x128.size w from fun w => (View.readAt_full _ _ _).trans ((View.read_writes_cons_put _ _ _ _ _ rfl).trans (by rw [View.writes_nil, harg17.read_unread]))), View.writes_nil, Memref.IsWhole.read_unread, View.readAt_eq_ld])
  isplitl [H19]
  · iexists _; isplitr; swap; · iexact H19
    ipureintro
    (sl_unfold_run_names
     first
       | refine (View.read_writes_full _ _ _ _ _).trans ?_
       | refine (View.read_writes_cons_put _ _ _ _ _ rfl).trans ?_
     try simp only [(show View.readAt (Elt F) arg1.view (Rect.unit (s := S1024x128) ![0, 0] S1024x128.size inb_S1024x128_S1024x128_0_0).toLoadRect (harg1.unread x1) = x1 from (View.readAt_full _ _ _).trans (harg1.read_unread _)), (show View.readAt (Elt F) arg2.view (Rect.unit (s := S4096x64) ![0, 0] S4096x64.size inb_S4096x64_S4096x64_0_0).toLoadRect (harg2.unread x2) = x2 from (View.readAt_full _ _ _).trans (harg2.read_unread _)), (show View.readAt (Elt F) arg6.view (Rect.unit (s := S64x128) ![0, 0] S64x128.size inb_S64x128_S64x128_0_0).toLoadRect (harg6.unread x6) = x6 from (View.readAt_full _ _ _).trans (harg6.read_unread _)), (show View.readAt (Elt F) arg7.view (Rect.unit (s := S64x64) ![0, 0] S64x64.size inb_S64x64_S64x64_0_0).toLoadRect (harg7.unread x7) = x7 from (View.readAt_full _ _ _).trans (harg7.read_unread _)), (show View.readAt (Elt F) arg8.view (Rect.unit (s := S1x64) ![0, 0] S1x64.size inb_S1x64_S1x64_0_0).toLoadRect (harg8.unread x8) = x8 from (View.readAt_full _ _ _).trans (harg8.read_unread _)), (show View.readAt (Elt F) arg9.view (Rect.unit (s := S1x64) ![0, 0] S1x64.size inb_S1x64_S1x64_0_0).toLoadRect (harg9.unread x9) = x9 from (View.readAt_full _ _ _).trans (harg9.read_unread _)), (show View.readAt (Elt F) arg10.view (Rect.unit (s := S1x64) ![0, 0] S1x64.size inb_S1x64_S1x64_0_0).toLoadRect (harg10.unread x10) = x10 from (View.readAt_full _ _ _).trans (harg10.read_unread _)), (show View.readAt (Elt F) arg11.view (Rect.unit (s := S1x64) ![0, 0] S1x64.size inb_S1x64_S1x64_0_0).toLoadRect (harg11.unread x11) = x11 from (View.readAt_full _ _ _).trans (harg11.read_unread _)), (show View.readAt (Elt F) arg13.view (Rect.unit (s := S128x128) ![0, 0] S128x128.size inb_S128x128_S128x128_0_0).toLoadRect (harg13.unread x13) = x13 from (View.readAt_full _ _ _).trans (harg13.read_unread _)), (show View.readAt (Elt F) arg14.view (Rect.unit (s := S1x128) ![0, 0] S1x128.size inb_S1x128_S1x128_0_0).toLoadRect (harg14.unread x14) = x14 from (View.readAt_full _ _ _).trans (harg14.read_unread _)), (show View.readAt (Elt F) arg15.view (Rect.unit (s := S64x64) ![0, 0] S64x64.size inb_S64x64_S64x64_0_0).toLoadRect (harg15.unread x15) = x15 from (View.readAt_full _ _ _).trans (harg15.read_unread _)), (show View.readAt (Elt F) arg16.view (Rect.unit (s := S1x64) ![0, 0] S1x64.size inb_S1x64_S1x64_0_0).toLoadRect (harg16.unread x16) = x16 from (View.readAt_full _ _ _).trans (harg16.read_unread _)), (show ∀ w, arg13.view.readCov (Val := Elt F) [⟨(Rect.unit (s := S128x128) ![0, 0] S128x128.size inb_S128x128_S128x128_0_0), w⟩] (Rect.unit (s := S128x128) ![0, 0] S128x128.size inb_S128x128_S128x128_0_0).toLoadRect = w from fun w => View.readCov_full _ _ _ _ _), (show ∀ w, arg14.view.readCov (Val := Elt F) [⟨(Rect.unit (s := S1x128) ![0, 0] S1x128.size inb_S1x128_S1x128_0_0), w⟩] (Rect.unit (s := S1x128) ![0, 0] S1x128.size inb_S1x128_S1x128_0_0).toLoadRect = w from fun w => View.readCov_full _ _ _ _ _), (show ∀ w, arg15.view.readCov (Val := Elt F) [⟨(Rect.unit (s := S64x64) ![0, 0] S64x64.size inb_S64x64_S64x64_0_0), w⟩] (Rect.unit (s := S64x64) ![0, 0] S64x64.size inb_S64x64_S64x64_0_0).toLoadRect = w from fun w => View.readCov_full _ _ _ _ _), (show ∀ w, arg16.view.readCov (Val := Elt F) [⟨(Rect.unit (s := S1x64) ![0, 0] S1x64.size inb_S1x64_S1x64_0_0), w⟩] (Rect.unit (s := S1x64) ![0, 0] S1x64.size inb_S1x64_S1x64_0_0).toLoadRect = w from fun w => View.readCov_full _ _ _ _ _), (show ∀ w, View.readAt (Elt F) arg17.view (Rect.unit (s := S8192x128) ![0, 0] S8192x128.size inb_S8192x128_S8192x128_0_0).toLoadRect (arg17.view.writes (Elt F) (harg17.unread x17) [⟨Rect.unit (s := S8192x128) (k0_off1 i) S1024x128.size (k0_off1_inb i hc1), w⟩]) = VecWindow.put x17 (k0_off1 i) S1024x128.size w from fun w => (View.readAt_full _ _ _).trans ((View.read_writes_cons_put _ _ _ _ _ rfl).trans (by rw [View.writes_nil, harg17.read_unread]))), View.writes_nil, Memref.IsWhole.read_unread, View.readAt_eq_ld])
  iexists _; isplitr; swap; · iexact H20
  ipureintro
  (sl_unfold_run_names
   first
     | refine (View.read_writes_full _ _ _ _ _).trans ?_
     | refine (View.read_writes_cons_put _ _ _ _ _ rfl).trans ?_
   try simp only [(show View.readAt (Elt F) arg1.view (Rect.unit (s := S1024x128) ![0, 0] S1024x128.size inb_S1024x128_S1024x128_0_0).toLoadRect (harg1.unread x1) = x1 from (View.readAt_full _ _ _).trans (harg1.read_unread _)), (show View.readAt (Elt F) arg2.view (Rect.unit (s := S4096x64) ![0, 0] S4096x64.size inb_S4096x64_S4096x64_0_0).toLoadRect (harg2.unread x2) = x2 from (View.readAt_full _ _ _).trans (harg2.read_unread _)), (show View.readAt (Elt F) arg6.view (Rect.unit (s := S64x128) ![0, 0] S64x128.size inb_S64x128_S64x128_0_0).toLoadRect (harg6.unread x6) = x6 from (View.readAt_full _ _ _).trans (harg6.read_unread _)), (show View.readAt (Elt F) arg7.view (Rect.unit (s := S64x64) ![0, 0] S64x64.size inb_S64x64_S64x64_0_0).toLoadRect (harg7.unread x7) = x7 from (View.readAt_full _ _ _).trans (harg7.read_unread _)), (show View.readAt (Elt F) arg8.view (Rect.unit (s := S1x64) ![0, 0] S1x64.size inb_S1x64_S1x64_0_0).toLoadRect (harg8.unread x8) = x8 from (View.readAt_full _ _ _).trans (harg8.read_unread _)), (show View.readAt (Elt F) arg9.view (Rect.unit (s := S1x64) ![0, 0] S1x64.size inb_S1x64_S1x64_0_0).toLoadRect (harg9.unread x9) = x9 from (View.readAt_full _ _ _).trans (harg9.read_unread _)), (show View.readAt (Elt F) arg10.view (Rect.unit (s := S1x64) ![0, 0] S1x64.size inb_S1x64_S1x64_0_0).toLoadRect (harg10.unread x10) = x10 from (View.readAt_full _ _ _).trans (harg10.read_unread _)), (show View.readAt (Elt F) arg11.view (Rect.unit (s := S1x64) ![0, 0] S1x64.size inb_S1x64_S1x64_0_0).toLoadRect (harg11.unread x11) = x11 from (View.readAt_full _ _ _).trans (harg11.read_unread _)), (show View.readAt (Elt F) arg13.view (Rect.unit (s := S128x128) ![0, 0] S128x128.size inb_S128x128_S128x128_0_0).toLoadRect (harg13.unread x13) = x13 from (View.readAt_full _ _ _).trans (harg13.read_unread _)), (show View.readAt (Elt F) arg14.view (Rect.unit (s := S1x128) ![0, 0] S1x128.size inb_S1x128_S1x128_0_0).toLoadRect (harg14.unread x14) = x14 from (View.readAt_full _ _ _).trans (harg14.read_unread _)), (show View.readAt (Elt F) arg15.view (Rect.unit (s := S64x64) ![0, 0] S64x64.size inb_S64x64_S64x64_0_0).toLoadRect (harg15.unread x15) = x15 from (View.readAt_full _ _ _).trans (harg15.read_unread _)), (show View.readAt (Elt F) arg16.view (Rect.unit (s := S1x64) ![0, 0] S1x64.size inb_S1x64_S1x64_0_0).toLoadRect (harg16.unread x16) = x16 from (View.readAt_full _ _ _).trans (harg16.read_unread _)), (show ∀ w, arg13.view.readCov (Val := Elt F) [⟨(Rect.unit (s := S128x128) ![0, 0] S128x128.size inb_S128x128_S128x128_0_0), w⟩] (Rect.unit (s := S128x128) ![0, 0] S128x128.size inb_S128x128_S128x128_0_0).toLoadRect = w from fun w => View.readCov_full _ _ _ _ _), (show ∀ w, arg14.view.readCov (Val := Elt F) [⟨(Rect.unit (s := S1x128) ![0, 0] S1x128.size inb_S1x128_S1x128_0_0), w⟩] (Rect.unit (s := S1x128) ![0, 0] S1x128.size inb_S1x128_S1x128_0_0).toLoadRect = w from fun w => View.readCov_full _ _ _ _ _), (show ∀ w, arg15.view.readCov (Val := Elt F) [⟨(Rect.unit (s := S64x64) ![0, 0] S64x64.size inb_S64x64_S64x64_0_0), w⟩] (Rect.unit (s := S64x64) ![0, 0] S64x64.size inb_S64x64_S64x64_0_0).toLoadRect = w from fun w => View.readCov_full _ _ _ _ _), (show ∀ w, arg16.view.readCov (Val := Elt F) [⟨(Rect.unit (s := S1x64) ![0, 0] S1x64.size inb_S1x64_S1x64_0_0), w⟩] (Rect.unit (s := S1x64) ![0, 0] S1x64.size inb_S1x64_S1x64_0_0).toLoadRect = w from fun w => View.readCov_full _ _ _ _ _), (show ∀ w, View.readAt (Elt F) arg17.view (Rect.unit (s := S8192x128) ![0, 0] S8192x128.size inb_S8192x128_S8192x128_0_0).toLoadRect (arg17.view.writes (Elt F) (harg17.unread x17) [⟨Rect.unit (s := S8192x128) (k0_off1 i) S1024x128.size (k0_off1_inb i hc1), w⟩]) = VecWindow.put x17 (k0_off1 i) S1024x128.size w from fun w => (View.readAt_full _ _ _).trans ((View.read_writes_cons_put _ _ _ _ _ rfl).trans (by rw [View.writes_nil, harg17.read_unread]))), View.writes_nil, Memref.IsWhole.read_unread, View.readAt_eq_ld])

end Cert.KernelIdeal.Mine

end
-- ==== Proof.Body.Query.lean ====
/- The kernel body at grid points 8 to 39, run from what its buffers hold to what it leaves. -/
module

public import proofs.«01_k».proof.Proof.Gen.KernelIdeal.Frame
public import proofs.«01_k».proof.Proof.Gen.KernelIdeal.Skeleton
public import proofs.«01_k».proof.Proof.Body.Last
public import Idealize.ShloMosaic.Lib.VecWindow
public import Idealize.ShloMosaic.Lib.Pipeline.Value

@[expose] public section

-- the stores' rectangles have long axes
set_option maxRecDepth 16384

noncomputable section

namespace Cert.KernelIdeal.Mine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- POINTS 8 TO 39. One block of 1024 fine points: the three nearest coarse points of each, their weighted features and the transformed fine features; only the output block changes. -/
theorem run_query (c : Dev nD) (i : grid0.Coords) (arg1 : Memref sig .tc .vmem S1024x128 .f32) (harg1 : arg1.IsWhole) (arg2 : Memref sig .tc .vmem S4096x64 .f32) (harg2 : arg2.IsWhole) (arg3 : Memref sig .tc .vmem S1x1024x3 .f32) (harg3 : arg3.IsWhole) (arg4 : Memref sig .tc .vmem S1x1024x64 .f32) (harg4 : arg4.IsWhole) (arg5 : Memref sig .tc .vmem S1x2048x3 .f32) (harg5 : arg5.IsWhole) (arg6 : Memref sig .tc .vmem S64x128 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x1024x64 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S8192x128 .f32) (harg17 : arg17.IsWhole) (arg18 : Memref sig .tc .vmem S8192x64 .f32) (harg18 : arg18.IsWhole) (arg19 : Memref sig .tc .vmem S1x64 .f32) (harg19 : arg19.IsWhole) (arg20 : Memref sig .tc .vmem S1x64 .f32) (harg20 : arg20.IsWhole)
    (hc0 : ¬ (Scalar.cmpi .ne (Scalar.extui (Scalar.cmpi .eq (BitVec.ofNat 32 (i 0).val) 0#32)) 0#32) = 1#1) (hc1 : ¬ k0_cond2 i = 1#1) (hc2 : ¬ (Scalar.cmpi .ne (Scalar.extui (Scalar.cmpi .eq (BitVec.ofNat 32 (i 0).val) 7#32)) 0#32) = 1#1) (hc3 : k0_cond4 i = 1#1)
    (x1 : Vec F S1024x128 .f32) (x2 : Vec F S4096x64 .f32) (x3 : Vec F S1x1024x3 .f32) (x4 : Vec F S1x1024x64 .f32) (x5 : Vec F S1x2048x3 .f32) (x6 : Vec F S64x128 .f32) (x7 : Vec F S64x64 .f32) (x8 : Vec F S1x64 .f32) (x9 : Vec F S1x64 .f32) (x10 : Vec F S1x64 .f32) (x11 : Vec F S1x64 .f32) (x18 : Vec F S8192x64 .f32) (x19 : Vec F S1x64 .f32) (x20 : Vec F S1x64 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare x18 ∗ owns (c : Thread nD τ) arg19 fullShare x19 ∗ owns (c : Thread nD τ) arg20 fullShare x20
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (k0_pay11 (k0_pay38 (k0_pay25 x3) (k0_pay26 x3 x5) (k0_pay28 (F := F)) (k0_pay29 x3 x5) (k0_pay30 x3 x5)) (k0_pay39 (k0_pay25 x3) (k0_pay26 x3 x5) (k0_pay27 (F := F)) (k0_pay29 x3 x5) (k0_pay30 x3 x5)) (k0_pay41 (k0_pay26 x3 x5) (k0_pay30 x3 x5)) (k0_pay42 (k0_pay25 x3) (k0_pay26 x3 x5) (k0_pay30 x3 x5)) (k0_pay43 (F := F)) (View.ld x18 (Rect.unit (s := S8192x64) (k0_off2 i) S2048x64.size (k0_off2_inb i hc3))) x4 x7 x19 x20) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare x18 ∗ owns (c : Thread nD τ) arg19 fullShare x19 ∗ owns (c : Thread nD τ) arg20 fullShare x20) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__fused_kernel_eq_skeleton]; unfold cc0__fused_kernel_skel
  simp only [k0_part1_eq_skeleton, k0_part2_eq_skeleton, k0_part3_eq_skeleton, k0_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, ⟨%f19, %hf19, H19⟩, ⟨%f20, %hf20, H20⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg18.eq_unread hf18
  obtain rfl := harg19.eq_unread hf19
  obtain rfl := harg20.eq_unread hf20
  sl_exec (disch := first | sl_exact hc0 | sl_exact hc1 | sl_exact hc2 | sl_exact hc3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    (sl_unfold_run_names
     first
       | refine (View.read_writes_full _ _ _ _ _).trans ?_
       | refine (View.read_writes_cons_put _ _ _ _ _ rfl).trans ?_
     try simp only [(show View.readAt (Elt F) arg3.view (Rect.unit (s := S1x1024x3) ![0, 0, 0] S1x1024x3.size inb_S1x1024x3_S1x1024x3_0_0_0).toLoadRect (harg3.unread x3) = x3 from (View.readAt_full _ _ _).trans (harg3.read_unread _)), (show View.readAt (Elt F) arg4.view (Rect.unit (s := S1x1024x64) ![0, 0, 0] S1x1024x64.size inb_S1x1024x64_S1x1024x64_0_0_0).toLoadRect (harg4.unread x4) = x4 from (View.readAt_full _ _ _).trans (harg4.read_unread _)), (show View.readAt (Elt F) arg5.view (Rect.unit (s := S1x2048x3) ![0, 0, 0] S1x2048x3.size inb_S1x2048x3_S1x2048x3_0_0_0).toLoadRect (harg5.unread x5) = x5 from (View.readAt_full _ _ _).trans (harg5.read_unread _)), (show View.readAt (Elt F) arg7.view (Rect.unit (s := S64x64) ![0, 0] S64x64.size inb_S64x64_S64x64_0_0).toLoadRect (harg7.unread x7) = x7 from (View.readAt_full _ _ _).trans (harg7.read_unread _)), (show View.readAt (Elt F) arg19.view (Rect.unit (s := S1x64) ![0, 0] S1x64.size inb_S1x64_S1x64_0_0).toLoadRect (harg19.unread x19) = x19 from (View.readAt_full _ _ _).trans (harg19.read_unread _)), (show View.readAt (Elt F) arg20.view (Rect.unit (s := S1x64) ![0, 0] S1x64.size inb_S1x64_S1x64_0_0).toLoadRect (harg20.unread x20) = x20 from (View.readAt_full _ _ _).trans (harg20.read_unread _)), View.writes_nil, Memref.IsWhole.read_unread, View.readAt_eq_ld])
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _; isplitr; · ipureintro; exact harg18.read_unread _
    iexact H18
  isplitl [H19]
  · iexists _; isplitr; · ipureintro; exact harg19.read_unread _
    iexact H19
  iexists _; isplitr; · ipureintro; exact harg20.read_unread _
  iexact H20

end Cert.KernelIdeal.Mine

end
-- ==== Proof.Body.Data.lean ====
/- Which branch each grid point takes, what the scratch buffers hold between the points, and what the output block gets. -/
module

public import proofs.«01_k».proof.Proof.Body.Query
public import Idealize.ShloMosaic.Lib.ValueIdxCore

@[expose] public section

-- the stores' rectangles have long axes
set_option maxRecDepth 16384

noncomputable section

namespace Cert.KernelIdeal.Mine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branch a grid point takes -/

/-- The first branch (clear the sums) is taken at point 0 only. -/
theorem hcond0 : ∀ t : Fin grid0.N, (Scalar.cmpi .ne (Scalar.extui (Scalar.cmpi .eq (BitVec.ofNat 32 ((grid0.coords t) 0).val) 0#32)) 0#32) = 1#1 ↔ t.val = 0 := by decide +kernel
/-- The second (accumulate a chunk) at points 0 to 7. -/
theorem hcond1 : ∀ t : Fin grid0.N, k0_cond2 (grid0.coords t) = 1#1 ↔ t.val < 8 := by decide +kernel
/-- The third (fold the batch norms) at point 7. -/
theorem hcond2 : ∀ t : Fin grid0.N, (Scalar.cmpi .ne (Scalar.extui (Scalar.cmpi .eq (BitVec.ofNat 32 ((grid0.coords t) 0).val) 7#32)) 0#32) = 1#1 ↔ t.val = 7 := by decide +kernel
/-- The fourth (a query tile) from point 8 on. -/
theorem hcond3 : ∀ t : Fin grid0.N, k0_cond4 (grid0.coords t) = 1#1 ↔ 8 ≤ t.val := by decide +kernel
/-- The chunk stored at point `t < 8` starts at row `1024 t`. -/
theorem off1_row : ∀ t : Fin grid0.N, t.val < 8 → k0_off1 (grid0.coords t) 0 = 1024 * t.val := by decide +kernel
theorem off1_col : ∀ t : Fin grid0.N, k0_off1 (grid0.coords t) 1 = 0 := by decide +kernel
/-- The output window's block is not written back during the chunk points. -/
theorem flush11 : ∀ t : Fin grid0.N, t.val < 8 → win0_11.flush t = false := by decide +kernel
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl
theorem live_9 : ∀ t : Fin cfg0.N, cfg0.idle 9 (grid0.coords t) = false := fun _ => rfl
theorem live_10 : ∀ t : Fin cfg0.N, cfg0.idle 10 (grid0.coords t) = false := fun _ => rfl

/-! ## What the scratch holds between the points -/

/-- Grid point `n` (read modulo the number of points, so that it is defined for every `n`). -/
def pt (n : ℕ) : Fin cfg0.N := ⟨n % 40, by rw [show cfg0.N = 40 from N_0]; omega⟩
theorem pt_val (t : Fin cfg0.N) : pt t.val = t := Fin.ext (Nat.mod_eq_of_lt (lt_of_lt_of_eq t.isLt (show cfg0.N = 40 from N_0)))

/-- The chunk of coarse features staged at point `n`. -/
def ck2 (c : Dev nD) (n : ℕ) : Vec F S1024x128 .f32 := iblk m c 0 (pt n)
/-- The chunk of fine features staged at point `n`. -/
def ck1 (c : Dev nD) (n : ℕ) : Vec F S4096x64 .f32 := iblk m c 1 (pt n)
/-- The coarse Gram matrix after `n` chunks. -/
def G2 (c : Dev nD) : ℕ → Vec F S128x128 .f32 | 0 => k0_pay1 | n + 1 => k0_pay14 (ck2 m c n) (G2 c n)
/-- The coarse column sums after `n` chunks. -/
def S2 (c : Dev nD) : ℕ → Vec F S1x128 .f32 | 0 => k0_pay2 | n + 1 => k0_pay15 (ck2 m c n) (S2 c n)
/-- The fine Gram matrix after `n` chunks. -/
def G1 (c : Dev nD) : ℕ → Vec F S64x64 .f32 | 0 => k0_pay3 | n + 1 => k0_pay16 (ck1 m c n) (G1 c n)
/-- The fine column sums after `n` chunks. -/
def S1 (c : Dev nD) : ℕ → Vec F S1x64 .f32 | 0 => k0_pay4 | n + 1 => k0_pay17 (ck1 m c n) (S1 c n)
/-- All coarse features as the chunk points store them, row by row. -/
def X2s (c : Dev nD) : Vec F S8192x128 .f32 := fun y =>
  k0_pay5 (k0_pay12 (ck2 m c ((y 0).val / 1024))) (ix2 ⟨(y 0).val % 1024, Nat.mod_lt _ (by decide)⟩ ⟨(y 1).val, (y 1).isLt⟩)
/-- The parameter staged in window 5 at point 7. -/
def pW2 (c : Dev nD) : Vec F S64x128 .f32 := iblk m c 5 (pt 7)
/-- The parameter staged in window 6 at point 7. -/
def pW1 (c : Dev nD) : Vec F S64x64 .f32 := iblk m c 6 (pt 7)
/-- The parameter staged in window 7 at point 7. -/
def pg2 (c : Dev nD) : Vec F S1x64 .f32 := iblk m c 7 (pt 7)
/-- The parameter staged in window 8 at point 7. -/
def pbe2 (c : Dev nD) : Vec F S1x64 .f32 := iblk m c 8 (pt 7)
/-- The parameter staged in window 9 at point 7. -/
def pg1 (c : Dev nD) : Vec F S1x64 .f32 := iblk m c 9 (pt 7)
/-- The parameter staged in window 10 at point 7. -/
def pbe1 (c : Dev nD) : Vec F S1x64 .f32 := iblk m c 10 (pt 7)
/-- The transformed coarse features. -/
def H2 (c : Dev nD) : Vec F S8192x64 .f32 :=
  k0_pay10 (k0_pay19 (G2 m c 8) (S2 m c 8) (pW2 m c) (pg2 m c)) (k0_pay20 (G2 m c 8) (S2 m c 8) (pW2 m c) (pg2 m c) (pbe2 m c)) (X2s m c) (pW2 m c)
/-- The scale of the fine batch norm. -/
def SC1 (c : Dev nD) : Vec F S1x64 .f32 := k0_pay8 (G1 m c 8) (S1 m c 8) (pW1 m c) (k0_pay21 (pg1 m c)) (k0_pay23 (F := F))
/-- The shift of the fine batch norm. -/
def SH1 (c : Dev nD) : Vec F S1x64 .f32 := k0_pay9 (G1 m c 8) (S1 m c 8) (pW1 m c) (k0_pay21 (pg1 m c)) (k0_pay22 (pbe1 m c)) (k0_pay23 (F := F))

/-- What a query point leaves in the output block, from what it finds: the transformed features of its batch, the blocks, the scale and the shift. -/
def outOf (a : Vec F S2048x64 .f32) (x3 : Vec F S1x1024x3 .f32) (x4 : Vec F S1x1024x64 .f32) (x5 : Vec F S1x2048x3 .f32) (x7 : Vec F S64x64 .f32) (x19 x20 : Vec F S1x64 .f32) : Vec F S1x1024x64 .f32 :=
  k0_pay11 (k0_pay38 (k0_pay25 x3) (k0_pay26 x3 x5) (k0_pay28 (F := F)) (k0_pay29 x3 x5) (k0_pay30 x3 x5)) (k0_pay39 (k0_pay25 x3) (k0_pay26 x3 x5) (k0_pay27 (F := F)) (k0_pay29 x3 x5) (k0_pay30 x3 x5)) (k0_pay41 (k0_pay26 x3 x5) (k0_pay30 x3 x5)) (k0_pay42 (k0_pay25 x3) (k0_pay26 x3 x5) (k0_pay30 x3 x5)) (k0_pay43 (F := F)) a x4 x7 x19 x20

/-- The output block at point `t`. -/
def outV (c : Dev nD) (t : Fin cfg0.N) (h : k0_cond4 (grid0.coords t) = 1#1) : Vec F S1x1024x64 .f32 :=
  outOf (View.ld (H2 m c) (Rect.unit (s := S8192x64) (k0_off2 (grid0.coords t)) S2048x64.size (k0_off2_inb (grid0.coords t) h)))
    (iblk m c 2 t) (iblk m c 3 t) (iblk m c 4 t) (iblk m c 6 t) (SC1 m c) (SH1 m c)

/-- What is known of the scratch before point `n`. -/
def Inv (c : Dev nD) (n : ℕ) (d0 : Vec F S128x128 .f32) (d1 : Vec F S1x128 .f32) (d2 : Vec F S64x64 .f32) (d3 : Vec F S1x64 .f32) (d4 : Vec F S8192x128 .f32) (d5 : Vec F S8192x64 .f32) (d6 d7 : Vec F S1x64 .f32) : Prop :=
  (1 ≤ n → n ≤ 8 → d0 = G2 m c n ∧ d1 = S2 m c n ∧ d2 = G1 m c n ∧ d3 = S1 m c n)
    ∧ (n ≤ 8 → ∀ y, (y 0).val < 1024 * n → d4 y = X2s m c y)
    ∧ (8 ≤ n → d5 = H2 m c ∧ d6 = SC1 m c ∧ d7 = SH1 m c)

/-- Storing chunk `n` extends the rows known to be right to `1024 (n + 1)`. -/
theorem put_rows (c : Dev nD) (t : Fin cfg0.N) (ht : t.val < 8) (d4 : Vec F S8192x128 .f32) (h : ∀ y, (y 0).val < 1024 * t.val → d4 y = X2s m c y)
    (y : S8192x128.Idx) (hy : (y 0).val < 1024 * (t.val + 1)) :
    VecWindow.put d4 (k0_off1 (grid0.coords t)) S1024x128.size (k0_pay5 (k0_pay12 (iblk m c 0 t))) y = X2s m c y := by
  have h0 := off1_row t ht
  have h1 := off1_col t
  have hy1 : (y 1).val < 128 := (y 1).isLt
  unfold VecWindow.put
  split
  · rename_i hin
    have a0 := (hin 0).1
    rw [h0] at a0
    unfold X2s ck2
    have hd : (y 0).val / 1024 = t.val := by omega
    have hm : (y 0).val % 1024 = (y 0).val - 1024 * t.val := by omega
    rw [hd, pt_val]
    refine congrArg (k0_pay5 (k0_pay12 (iblk m c 0 t))) (funext fun a => Fin.ext ?_)
    match a with
    | ⟨0, _⟩ =>
      show (y 0).val - k0_off1 (grid0.coords t) 0 = (y 0).val % 1024
      rw [h0, hm]
    | ⟨1, _⟩ =>
      show (y 1).val - k0_off1 (grid0.coords t) 1 = (y 1).val
      rw [h1, Nat.sub_zero]
  · rename_i hout
    refine h y ?_
    by_contra hlt
    refine hout fun a => ?_
    match a with
    | ⟨0, _⟩ =>
      show k0_off1 (grid0.coords t) 0 ≤ (y 0).val ∧ (y 0).val < k0_off1 (grid0.coords t) 0 + 1024
      rw [h0]; omega
    | ⟨1, _⟩ =>
      show k0_off1 (grid0.coords t) 1 ≤ (y 1).val ∧ (y 1).val < k0_off1 (grid0.coords t) 1 + 128
      rw [h1]; omega

/-! ## The proof data -/

abbrev scM0_0 : Memref sig .tc .vmem S128x128 .f32 := Memref.whole cc0_scratch0
abbrev scM0_1 : Memref sig .tc .vmem S1x128 .f32 := Memref.whole cc0_scratch1
abbrev scM0_2 : Memref sig .tc .vmem S64x64 .f32 := Memref.whole cc0_scratch2
abbrev scM0_3 : Memref sig .tc .vmem S1x64 .f32 := Memref.whole cc0_scratch3
abbrev scM0_4 : Memref sig .tc .vmem S8192x128 .f32 := Memref.whole cc0_scratch4
abbrev scM0_5 : Memref sig .tc .vmem S8192x64 .f32 := Memref.whole cc0_scratch5
abbrev scM0_6 : Memref sig .tc .vmem S1x64 .f32 := Memref.whole cc0_scratch6
abbrev scM0_7 : Memref sig .tc .vmem S1x64 .f32 := Memref.whole cc0_scratch7

/-- The invariant between the points: the scratch at contents of which `Inv` holds, and the generator register at some state. -/
def PhiS (c : Dev nD) (n : ℕ) : sProp 𝕄 :=
  iprop((∃ d0 d1 d2 d3 d4 d5 d6 d7, ⌜Inv m c n d0 d1 d2 d3 d4 d5 d6 d7⌝ ∗ owns (c : Thread nD τ) scM0_0 fullShare d0 ∗ owns (c : Thread nD τ) scM0_1 fullShare d1 ∗ owns (c : Thread nD τ) scM0_2 fullShare d2 ∗ owns (c : Thread nD τ) scM0_3 fullShare d3 ∗ owns (c : Thread nD τ) scM0_4 fullShare d4 ∗ owns (c : Thread nD τ) scM0_5 fullShare d5 ∗ owns (c : Thread nD τ) scM0_6 fullShare d6 ∗ owns (c : Thread nD τ) scM0_7 fullShare d7) ∗ (∃ r, prngReg c r))

/-- The class's invariant, its scratch one by one. -/
theorem PhiA0_eq (c : Dev nD) : (Pipeline.ΦA spec0 c : sProp 𝕄) =
    iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]
  simp only [scM0_0, scM0_1, scM0_2, scM0_3, scM0_4, scM0_5, scM0_6, scM0_7, owns_whole]
  try rfl

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => if hq : k0_cond4 (grid0.coords t) = 1#1 then outV m c t hq else Pipeline.Dat.unnamed (cfg := cfg0) ⟨11, h⟩ t
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; rfl
theorem PhiS_succ (c : Dev nD) (t : Fin cfg0.N) : (dats m 0 c).Φ t.succ = PhiS m c (t.val + 1) := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
/-- At a query point the output block is the query's. -/
theorem after0_11 (c : Dev nD) (t : Fin cfg0.N) (hq : k0_cond4 (grid0.coords t) = 1#1) : (dats m 0 c).after 11 t = outV m c t hq := by
  dsimp only [dats]; exact dif_pos hq
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

end Cert.KernelIdeal.Mine

end
-- ==== Proof.Body.Oblig.lean ====
/- The body obligation of the launch, at every grid point. -/
module

public import proofs.«01_k».proof.Proof.Body.Data

@[expose] public section

-- the stores' rectangles have long axes
set_option maxRecDepth 16384

noncomputable section

namespace Cert.KernelIdeal.Mine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S1024x128 .f32 := win0_0.stage (cfg0.slots t 0)
abbrev ms0_1 (t : Fin cfg0.N) : Memref sig .tc .vmem S4096x64 .f32 := win0_1.stage (cfg0.slots t 1)
abbrev ms0_2 (t : Fin cfg0.N) : Memref sig .tc .vmem S1x1024x3 .f32 := win0_2.stage (cfg0.slots t 2)
abbrev ms0_3 (t : Fin cfg0.N) : Memref sig .tc .vmem S1x1024x64 .f32 := win0_3.stage (cfg0.slots t 3)
abbrev ms0_4 (t : Fin cfg0.N) : Memref sig .tc .vmem S1x2048x3 .f32 := win0_4.stage (cfg0.slots t 4)
abbrev ms0_5 (t : Fin cfg0.N) : Memref sig .tc .vmem S64x128 .f32 := win0_5.stage (cfg0.slots t 5)
abbrev ms0_6 (t : Fin cfg0.N) : Memref sig .tc .vmem S64x64 .f32 := win0_6.stage (cfg0.slots t 6)
abbrev ms0_7 (t : Fin cfg0.N) : Memref sig .tc .vmem S1x64 .f32 := win0_7.stage (cfg0.slots t 7)
abbrev ms0_8 (t : Fin cfg0.N) : Memref sig .tc .vmem S1x64 .f32 := win0_8.stage (cfg0.slots t 8)
abbrev ms0_9 (t : Fin cfg0.N) : Memref sig .tc .vmem S1x64 .f32 := win0_9.stage (cfg0.slots t 9)
abbrev ms0_10 (t : Fin cfg0.N) : Memref sig .tc .vmem S1x64 .f32 := win0_10.stage (cfg0.slots t 10)
abbrev ms0_11 (t : Fin cfg0.N) : Memref sig .tc .vmem S1x1024x64 .f32 := win0_11.stage (cfg0.slots t 11)

/-- What the body is called with at point `t`, the windows one by one, -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)

theorem leaves_0 (c : Dev nD) (t : Fin cfg0.N) : (dats m 0 c).leavesExact 0 t = owns (c : Thread nD τ) (ms0_0 t) fullShare (iblk m c 0 t) := by
  unfold Dat.leavesExact; rw [live_0 t, after0_0]
theorem leaves_1 (c : Dev nD) (t : Fin cfg0.N) : (dats m 0 c).leavesExact 1 t = owns (c : Thread nD τ) (ms0_1 t) fullShare (iblk m c 1 t) := by
  unfold Dat.leavesExact; rw [live_1 t, after0_1]
theorem leaves_2 (c : Dev nD) (t : Fin cfg0.N) : (dats m 0 c).leavesExact 2 t = owns (c : Thread nD τ) (ms0_2 t) fullShare (iblk m c 2 t) := by
  unfold Dat.leavesExact; rw [live_2 t, after0_2]
theorem leaves_3 (c : Dev nD) (t : Fin cfg0.N) : (dats m 0 c).leavesExact 3 t = owns (c : Thread nD τ) (ms0_3 t) fullShare (iblk m c 3 t) := by
  unfold Dat.leavesExact; rw [live_3 t, after0_3]
theorem leaves_4 (c : Dev nD) (t : Fin cfg0.N) : (dats m 0 c).leavesExact 4 t = owns (c : Thread nD τ) (ms0_4 t) fullShare (iblk m c 4 t) := by
  unfold Dat.leavesExact; rw [live_4 t, after0_4]
theorem leaves_5 (c : Dev nD) (t : Fin cfg0.N) : (dats m 0 c).leavesExact 5 t = owns (c : Thread nD τ) (ms0_5 t) fullShare (iblk m c 5 t) := by
  unfold Dat.leavesExact; rw [live_5 t, after0_5]
theorem leaves_6 (c : Dev nD) (t : Fin cfg0.N) : (dats m 0 c).leavesExact 6 t = owns (c : Thread nD τ) (ms0_6 t) fullShare (iblk m c 6 t) := by
  unfold Dat.leavesExact; rw [live_6 t, after0_6]
theorem leaves_7 (c : Dev nD) (t : Fin cfg0.N) : (dats m 0 c).leavesExact 7 t = owns (c : Thread nD τ) (ms0_7 t) fullShare (iblk m c 7 t) := by
  unfold Dat.leavesExact; rw [live_7 t, after0_7]
theorem leaves_8 (c : Dev nD) (t : Fin cfg0.N) : (dats m 0 c).leavesExact 8 t = owns (c : Thread nD τ) (ms0_8 t) fullShare (iblk m c 8 t) := by
  unfold Dat.leavesExact; rw [live_8 t, after0_8]
theorem leaves_9 (c : Dev nD) (t : Fin cfg0.N) : (dats m 0 c).leavesExact 9 t = owns (c : Thread nD τ) (ms0_9 t) fullShare (iblk m c 9 t) := by
  unfold Dat.leavesExact; rw [live_9 t, after0_9]
theorem leaves_10 (c : Dev nD) (t : Fin cfg0.N) : (dats m 0 c).leavesExact 10 t = owns (c : Thread nD τ) (ms0_10 t) fullShare (iblk m c 10 t) := by
  unfold Dat.leavesExact; rw [live_10 t, after0_10]
/-- At a query point the output's buffer is left at the query's block; -/
theorem leaves_11 (c : Dev nD) (t : Fin cfg0.N) (hq : k0_cond4 (grid0.coords t) = 1#1) : (dats m 0 c).leavesExact 11 t = owns (c : Thread nD τ) (ms0_11 t) fullShare (outV m c t hq) := by
  unfold Dat.leavesExact
  rw [show cfg0.idle 11 (grid0.coords t) = false from by show (!(k0_cond4 (grid0.coords t) == 1#1)) = false; rw [hq]; rfl, after0_11 m c t hq]
/-- at a chunk point it is handed back as found. -/
theorem leaves_11_idle (c : Dev nD) (t : Fin cfg0.N) (ht : t.val < 8) : (dats m 0 c).leavesExact 11 t = iprop(∃ d, owns (c : Thread nD τ) (ms0_11 t) fullShare ((dats m 0 c).before 11 t d)) :=
  (dats m 0 c).leavesExact_idle 11 t (by
    have hn : ¬ k0_cond4 (grid0.coords t) = 1#1 := fun h => absurd ((hcond3 t).mp h) (by omega)
    show (!(k0_cond4 (grid0.coords t) == 1#1)) = true
    simpa using hn) (flush11 t ht)

/-- One more chunk: the sums after point `t`. -/
theorem sums_step (c : Dev nD) (t : Fin cfg0.N) (d0 : Vec F S128x128 .f32) (d1 : Vec F S1x128 .f32) (d2 : Vec F S64x64 .f32) (d3 : Vec F S1x64 .f32)
    (h : d0 = G2 m c t.val ∧ d1 = S2 m c t.val ∧ d2 = G1 m c t.val ∧ d3 = S1 m c t.val) :
    k0_pay14 (iblk m c 0 t) d0 = G2 m c (t.val + 1) ∧ k0_pay15 (iblk m c 0 t) d1 = S2 m c (t.val + 1)
      ∧ k0_pay16 (iblk m c 1 t) d2 = G1 m c (t.val + 1) ∧ k0_pay17 (iblk m c 1 t) d3 = S1 m c (t.val + 1) := by
  obtain ⟨rfl, rfl, rfl, rfl⟩ := h
  refine ⟨?_, ?_, ?_, ?_⟩
  · show _ = k0_pay14 (ck2 m c t.val) (G2 m c t.val); unfold ck2; rw [pt_val]
  · show _ = k0_pay15 (ck2 m c t.val) (S2 m c t.val); unfold ck2; rw [pt_val]
  · show _ = k0_pay16 (ck1 m c t.val) (G1 m c t.val); unfold ck1; rw [pt_val]
  · show _ = k0_pay17 (ck1 m c t.val) (S1 m c t.val); unfold ck1; rw [pt_val]

/-- What point 7 stores, once the sums and the feature scratch are known: the transformed features, the scale and the shift. -/
theorem last_step (c : Dev nD) (t : Fin cfg0.N) (ht : t.val = 7) (d0 : Vec F S128x128 .f32) (d1 : Vec F S1x128 .f32) (d2 : Vec F S64x64 .f32) (d3 : Vec F S1x64 .f32) (d4 : Vec F S8192x128 .f32)
    (h : d0 = G2 m c (t.val + 1) ∧ d1 = S2 m c (t.val + 1) ∧ d2 = G1 m c (t.val + 1) ∧ d3 = S1 m c (t.val + 1)) (hx : d4 = X2s m c) :
    k0_pay10 (k0_pay19 d0 d1 (iblk m c 5 t) (iblk m c 7 t)) (k0_pay20 d0 d1 (iblk m c 5 t) (iblk m c 7 t) (iblk m c 8 t)) d4 (iblk m c 5 t) = H2 m c
      ∧ k0_pay8 d2 d3 (iblk m c 6 t) (k0_pay21 (iblk m c 9 t)) (k0_pay23 (F := F)) = SC1 m c
      ∧ k0_pay9 d2 d3 (iblk m c 6 t) (k0_pay21 (iblk m c 9 t)) (k0_pay22 (iblk m c 10 t)) (k0_pay23 (F := F)) = SH1 m c := by
  have h8 : t.val + 1 = 8 := by omega
  rw [h8] at h
  obtain ⟨rfl, rfl, rfl, rfl⟩ := h
  have hp : pt 7 = t := by rw [← ht, pt_val]
  unfold H2 SC1 SH1 pW2 pW1 pg2 pbe2 pg1 pbe1
  rw [hp, hx]
  exact ⟨rfl, rfl, rfl⟩

set_option maxHeartbeats 4000000 in
/-- Point 0. -/
theorem sound_first (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [leaves_0, leaves_1, leaves_2, leaves_3, leaves_4, leaves_5, leaves_6, leaves_7, leaves_8, leaves_9, leaves_10, leaves_11_idle m c t (by omega)]
  rw [show (dats m 0 c).owesAt () t.succ = (dats m 0 c).owesAt () t.castSucc from rfl, PhiS_castSucc, PhiS_succ]
  unfold PhiS
  iintro ⟨⟨⟨%d0, %d1, %d2, %d3, %d4, %d5, %d6, %d7, %hI, S0, S1, S2, S3, S4, S5, S6, S7⟩, Hg⟩, Ho, ⟨%e0, W0⟩, ⟨%e1, W1⟩, ⟨%e2, W2⟩, ⟨%e3, W3⟩, ⟨%e4, W4⟩, ⟨%e5, W5⟩, ⟨%e6, W6⟩, ⟨%e7, W7⟩, ⟨%e8, W8⟩, ⟨%e9, W9⟩, ⟨%e10, W10⟩, ⟨%e11, W11⟩⟩
  iapply (run_first c (grid0.coords t) _ _ _ _ _ _ _ _ _ _ _ _ _ _ _ _ _ _ _ _ _ _ _ _ _ _ _ _ _ _ _ _ _ _ _ _ _ _ _ _ ((hcond0 t).mpr ht) ((hcond1 t).mpr (by omega)) (fun h => absurd ((hcond2 t).mp h) (by omega)) (fun h => absurd ((hcond3 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 11 t e11) d4 Set.univ _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [S0]; · iexists _; iexact S0
  isplitl [S1]; · iexists _; iexact S1
  isplitl [S2]; · iexists _; iexact S2
  isplitl [S3]; · iexists _; iexact S3
  isplitl [S4]; · iexact S4
  isplitl [S5]; · iexists _; iexact S5
  isplitl [S6]; · iexists _; iexact S6
  isplitl [S7]; · iexists _; iexact S7
  iintro ⟨W0, W1, W2, W3, W4, W5, W6, W7, W8, W9, W10, W11, S0, S1, S2, S3, S4, ⟨%z18, S5⟩, ⟨%z19, S6⟩, ⟨%z20, S7⟩⟩
  isplitl [S0 S1 S2 S3 S4 S5 S6 S7 Hg]
  · isplitr [Hg]
    · iexists _; iexists _; iexists _; iexists _; iexists _; iexists _; iexists _; iexists _
      isplitr
      swap
      · isplitl [S0]; · iexact S0
        isplitl [S1]; · iexact S1
        isplitl [S2]; · iexact S2
        isplitl [S3]; · iexact S3
        isplitl [S4]; · iexact S4
        isplitl [S5]; · iexact S5
        isplitl [S6]; · iexact S6
        iexact S7
      ipureintro
      refine ⟨fun _ _ => ?_, fun _ y hy => put_rows m c t (by omega) d4 (fun y hy => by omega) y hy, fun h => absurd h (by omega)⟩
      rw [ht]
      refine ⟨?_, ?_, ?_, ?_⟩
      · show _ = k0_pay14 (ck2 m c 0) (k0_pay1 (F := F)); unfold ck2; rw [← ht, pt_val]
      · show _ = k0_pay15 (ck2 m c 0) (k0_pay2 (F := F)); unfold ck2; rw [← ht, pt_val]
      · show _ = k0_pay16 (ck1 m c 0) (k0_pay3 (F := F)); unfold ck1; rw [← ht, pt_val]
      · show _ = k0_pay17 (ck1 m c 0) (k0_pay4 (F := F)); unfold ck1; rw [← ht, pt_val]
    iexact Hg
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  iexists _; iexact W11

set_option maxHeartbeats 4000000 in
/-- Points 1 to 6. -/
theorem sound_chunk (c : Dev nD) (t : Fin cfg0.N) (ht : 1 ≤ t.val ∧ t.val < 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [leaves_0, leaves_1, leaves_2, leaves_3, leaves_4, leaves_5, leaves_6, leaves_7, leaves_8, leaves_9, leaves_10, leaves_11_idle m c t (by omega)]
  rw [show (dats m 0 c).owesAt () t.succ = (dats m 0 c).owesAt () t.castSucc from rfl, PhiS_castSucc, PhiS_succ]
  unfold PhiS
  iintro ⟨⟨⟨%d0, %d1, %d2, %d3, %d4, %d5, %d6, %d7, %hI, S0, S1, S2, S3, S4, S5, S6, S7⟩, Hg⟩, Ho, ⟨%e0, W0⟩, ⟨%e1, W1⟩, ⟨%e2, W2⟩, ⟨%e3, W3⟩, ⟨%e4, W4⟩, ⟨%e5, W5⟩, ⟨%e6, W6⟩, ⟨%e7, W7⟩, ⟨%e8, W8⟩, ⟨%e9, W9⟩, ⟨%e10, W10⟩, ⟨%e11, W11⟩⟩
  iapply (run_chunk c (grid0.coords t) _ _ _ _ _ _ _ _ _ _ _ _ _ _ _ _ _ _ _ _ _ _ _ _ _ _ _ _ _ _ _ _ _ _ _ _ _ _ _ _ (fun h => absurd ((hcond0 t).mp h) (by omega)) ((hcond1 t).mpr (by omega)) (fun h => absurd ((hcond2 t).mp h) (by omega)) (fun h => absurd ((hcond3 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 11 t e11) d0 d1 d2 d3 d4 Set.univ _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [S0]; · iexact S0
  isplitl [S1]; · iexact S1
  isplitl [S2]; · iexact S2
  isplitl [S3]; · iexact S3
  isplitl [S4]; · iexact S4
  isplitl [S5]; · iexists _; iexact S5
  isplitl [S6]; · iexists _; iexact S6
  isplitl [S7]; · iexists _; iexact S7
  iintro ⟨W0, W1, W2, W3, W4, W5, W6, W7, W8, W9, W10, W11, S0, S1, S2, S3, S4, ⟨%z18, S5⟩, ⟨%z19, S6⟩, ⟨%z20, S7⟩⟩
  isplitl [S0 S1 S2 S3 S4 S5 S6 S7 Hg]
  · isplitr [Hg]
    · iexists _; iexists _; iexists _; iexists _; iexists _; iexists _; iexists _; iexists _
      isplitr
      swap
      · isplitl [S0]; · iexact S0
        isplitl [S1]; · iexact S1
        isplitl [S2]; · iexact S2
        isplitl [S3]; · iexact S3
        isplitl [S4]; · iexact S4
        isplitl [S5]; · iexact S5
        isplitl [S6]; · iexact S6
        iexact S7
      ipureintro
      exact ⟨fun _ _ => sums_step m c t d0 d1 d2 d3 (hI.1 (by omega) (by omega)), fun _ y hy => put_rows m c t (by omega) d4 (hI.2.1 (by omega)) y hy, fun h => absurd h (by omega)⟩
    iexact Hg
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  iexists _; iexact W11

set_option maxHeartbeats 4000000 in
/-- Point 7. -/
theorem sound_last (c : Dev nD) (t : Fin cfg0.N) (ht : t.val = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [leaves_0, leaves_1, leaves_2, leaves_3, leaves_4, leaves_5, leaves_6, leaves_7, leaves_8, leaves_9, leaves_10, leaves_11_idle m c t (by omega)]
  rw [show (dats m 0 c).owesAt () t.succ = (dats m 0 c).owesAt () t.castSucc from rfl, PhiS_castSucc, PhiS_succ]
  unfold PhiS
  iintro ⟨⟨⟨%d0, %d1, %d2, %d3, %d4, %d5, %d6, %d7, %hI, S0, S1, S2, S3, S4, S5, S6, S7⟩, Hg⟩, Ho, ⟨%e0, W0⟩, ⟨%e1, W1⟩, ⟨%e2, W2⟩, ⟨%e3, W3⟩, ⟨%e4, W4⟩, ⟨%e5, W5⟩, ⟨%e6, W6⟩, ⟨%e7, W7⟩, ⟨%e8, W8⟩, ⟨%e9, W9⟩, ⟨%e10, W10⟩, ⟨%e11, W11⟩⟩
  iapply (run_last c (grid0.coords t) _ _ _ _ _ _ _ _ _ _ _ _ _ _ _ _ _ _ _ _ _ _ _ _ _ _ _ _ _ _ _ _ _ _ _ _ _ _ _ _ (fun h => absurd ((hcond0 t).mp h) (by omega)) ((hcond1 t).mpr (by omega)) ((hcond2 t).mpr ht) (fun h => absurd ((hcond3 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 11 t e11) d0 d1 d2 d3 d4 Set.univ _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [S0]; · iexact S0
  isplitl [S1]; · iexact S1
  isplitl [S2]; · iexact S2
  isplitl [S3]; · iexact S3
  isplitl [S4]; · iexact S4
  isplitl [S5]; · iexists _; iexact S5
  isplitl [S6]; · iexists _; iexact S6
  isplitl [S7]; · iexists _; iexact S7
  iintro ⟨W0, W1, W2, W3, W4, W5, W6, W7, W8, W9, W10, W11, S0, S1, S2, S3, S4, S5, S6, S7⟩
  isplitl [S0 S1 S2 S3 S4 S5 S6 S7 Hg]
  · isplitr [Hg]
    · iexists _; iexists _; iexists _; iexists _; iexists _; iexists _; iexists _; iexists _
      isplitr
      swap
      · isplitl [S0]; · iexact S0
        isplitl [S1]; · iexact S1
        isplitl [S2]; · iexact S2
        isplitl [S3]; · iexact S3
        isplitl [S4]; · iexact S4
        isplitl [S5]; · iexact S5
        isplitl [S6]; · iexact S6
        iexact S7
      ipureintro
      have hs := sums_step m c t d0 d1 d2 d3 (hI.1 (by omega) (by omega))
      have hp := put_rows m c t (by omega) d4 (hI.2.1 (by omega))
      have hx := funext fun y : S8192x128.Idx => hp y (by have := ValueIdx.idx2_lt0 y; omega)
      refine ⟨fun _ _ => hs, fun _ => hp, fun _ => ?_⟩
      exact last_step m c t ht _ _ _ _ _ hs hx
    iexact Hg
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  iexists _; iexact W11

set_option maxHeartbeats 4000000 in
/-- Points 8 to 39. -/
theorem sound_query (c : Dev nD) (t : Fin cfg0.N) (ht : 8 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [leaves_0, leaves_1, leaves_2, leaves_3, leaves_4, leaves_5, leaves_6, leaves_7, leaves_8, leaves_9, leaves_10, leaves_11 m c t ((hcond3 t).mpr ht)]
  rw [show (dats m 0 c).owesAt () t.succ = (dats m 0 c).owesAt () t.castSucc from rfl, PhiS_castSucc, PhiS_succ]
  unfold PhiS
  iintro ⟨⟨⟨%d0, %d1, %d2, %d3, %d4, %d5, %d6, %d7, %hI, S0, S1, S2, S3, S4, S5, S6, S7⟩, Hg⟩, Ho, ⟨%e0, W0⟩, ⟨%e1, W1⟩, ⟨%e2, W2⟩, ⟨%e3, W3⟩, ⟨%e4, W4⟩, ⟨%e5, W5⟩, ⟨%e6, W6⟩, ⟨%e7, W7⟩, ⟨%e8, W8⟩, ⟨%e9, W9⟩, ⟨%e10, W10⟩, ⟨%e11, W11⟩⟩
  iapply (run_query c (grid0.coords t) _ _ _ _ _ _ _ _ _ _ _ _ _ _ _ _ _ _ _ _ _ _ _ _ _ _ _ _ _ _ _ _ _ _ _ _ _ _ _ _ (fun h => absurd ((hcond0 t).mp h) (by omega)) (fun h => absurd ((hcond1 t).mp h) (by omega)) (fun h => absurd ((hcond2 t).mp h) (by omega)) ((hcond3 t).mpr ht) (iblk m c 0 t) (iblk m c 1 t) (iblk m c 2 t) (iblk m c 3 t) (iblk m c 4 t) (iblk m c 5 t) (iblk m c 6 t) (iblk m c 7 t) (iblk m c 8 t) (iblk m c 9 t) (iblk m c 10 t) d5 d6 d7 Set.univ _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexists _; iexact W11
  isplitl [S0]; · iexists _; iexact S0
  isplitl [S1]; · iexists _; iexact S1
  isplitl [S2]; · iexists _; iexact S2
  isplitl [S3]; · iexists _; iexact S3
  isplitl [S4]; · iexists _; iexact S4
  isplitl [S5]; · iexact S5
  isplitl [S6]; · iexact S6
  isplitl [S7]; · iexact S7
  iintro ⟨W0, W1, W2, W3, W4, W5, W6, W7, W8, W9, W10, W11, ⟨%z13, S0⟩, ⟨%z14, S1⟩, ⟨%z15, S2⟩, ⟨%z16, S3⟩, ⟨%z17, S4⟩, S5, S6, S7⟩
  isplitl [S0 S1 S2 S3 S4 S5 S6 S7 Hg]
  · isplitr [Hg]
    · iexists _; iexists _; iexists _; iexists _; iexists _; iexists _; iexists _; iexists _
      isplitr
      swap
      · isplitl [S0]; · iexact S0
        isplitl [S1]; · iexact S1
        isplitl [S2]; · iexact S2
        isplitl [S3]; · iexact S3
        isplitl [S4]; · iexact S4
        isplitl [S5]; · iexact S5
        isplitl [S6]; · iexact S6
        iexact S7
      ipureintro
      exact ⟨fun _ h => absurd h (by omega), fun h => absurd h (by omega), fun _ => hI.2.2 (by omega)⟩
    iexact Hg
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  obtain ⟨rfl, rfl, rfl⟩ := hI.2.2 (by omega)
  iexact W11

end Cert.KernelIdeal.Mine

end
-- ==== Proof.Body.Run.lean ====
/- The launch run from any start, and the frame claim. -/
module

public import proofs.«01_k».proof.Proof.Body.Oblig
public import Idealize.ShloMosaic.Lib.Claim

@[expose] public section

-- the stores' rectangles have long axes
set_option maxRecDepth 16384

noncomputable section

namespace Cert.KernelIdeal.Mine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point, by cases on the point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  by_cases h1 : t.val < 7
  · exact sound_chunk m c t ⟨by omega, h1⟩
  by_cases h2 : t.val = 7
  · exact sound_last m c t h2
  exact sound_query m c t (by omega)

/-- The body table's row at point `t`'s slots is the body at `t`. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ (fun _ => false) := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%d0, S0⟩, ⟨%d1, S1⟩, ⟨%d2, S2⟩, ⟨%d3, S3⟩, ⟨%d4, S4⟩, ⟨%d5, S5⟩, ⟨%d6, S6⟩, ⟨%d7, S7⟩⟩, Hg⟩
  isplitr [Hg]
  · iexists _; iexists _; iexists _; iexists _; iexists _; iexists _; iexists _; iexists _
    isplitr
    swap
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    ipureintro
    exact ⟨fun h => absurd h (by omega), fun _ y hy => absurd hy (by omega), fun h => absurd h (by omega)⟩
  iexact Hg

/-- After the last point the invariant gives the class's back. -/
theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨⟨%d0, %d1, %d2, %d3, %d4, %d5, %d6, %d7, %hI, S0, S1, S2, S3, S4, S5, S6, S7⟩, Hg⟩
  isplitr [Hg]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    iexists _; iexact S7
  iexact Hg

-- the rule's implicit arguments are found by unifying its conclusion with this one, which takes unfolding plain
-- definitions in a metavariable's type
set_option backward.isDefEq.respectTransparency.types false in
/-- THE LAUNCH: every array of the region at its contents after the write-backs, everything else as the region finds it, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl) (howed := fun _ _ => rfl) (V := V m)
    (hmain := hmain m Variants.none) (hA := A_eq m) (hin := hin m) (hout := hout m)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- THE FRAME: the arguments come back as they were, every semaphore at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11)) ∧ r.2.sem = fun _ => 0) :=
  θ_run_and (frame_of m ρ (dats m) (A_eq m) (run_main m ρ)) ((θ_run defs _ _).mono (fun _ h => h.2) (run_main_quiescent m ρ))

end Cert.KernelIdeal.Mine

end
-- ==== Proof.Body.Frames.lean ====
/- The frame of the compiled kernel: the same program text, read at machine numbers. -/
module

public import proofs.«01_k».proof.Proof.Body.Run
public import proofs.«01_k».proof.Proof.Gen.Kernel
public import proofs.«01_k».proof.Proof.Gen.ReferenceIdeal.Run
public import Idealize.ShloMosaic.Lib.Claim
public import Idealize.ShloMosaic.Lib.Quiescent
public import proofs.«01_k».proof.Defs

@[expose] public section

noncomputable section

namespace Cert.Mine

open Idealize.ShloMosaic Idealize.SL.Sem

/-- The two programs' body tables are one: they differ in the names of their case functions only. -/
theorem rows_eq : Cert.Kernel.defs₀ (F := Bits) = Cert.KernelIdeal.defs₀ (F := Bits) :=
  congrArg Defs.onTc (funext fun l => funext fun a => match l, a with | ⟨0, _⟩, (t, s) => rfl)

theorem defs_eq : Cert.Kernel.defs (F := Bits) = Cert.KernelIdeal.defs (F := Bits) :=
  congrArg (Pipeline.defs (Cert.KernelIdeal.pcfgs (F := Bits))) rows_eq

/-- The compiled kernel's frame: its program and the idealized kernel's are one text, so the proof for every number format serves both. -/
theorem frame_bits : Cert.quiescent_Kernel := fun m g _ => by
  have h := defs_eq
  revert h
  generalize Cert.Kernel.defs (F := Bits) = D
  intro h
  subst h
  exact Cert.KernelIdeal.Mine.frame (F := Bits) m g

/-- The reference's frame: host operations only, and a program that names no semaphore. -/
theorem frame_reference : Cert.quiescent_ReferenceIdeal := fun m g _ => by
  have h := Cert.ReferenceIdeal.Value.run m g
  exact θ_run_and (by run_from h) ((θ_run Cert.ReferenceIdeal.defs _ _).mono (fun r _ => sem_eq_zero_of_no_sems rfl _) h)

end Cert.Mine

end
-- ==== Proof.Value.Blocks.lean ====
/- The blocks that the windows stage, read as elements of the program's arguments. -/
module

public import proofs.«01_k».proof.Proof.Body.Data
public import Idealize.ShloMosaic.Lib.Pipeline.ValueKit
public import Idealize.ShloMosaic.Lib.Pointwise

@[expose] public section

set_option maxRecDepth 16384

noncomputable section

namespace Cert.KernelIdeal.Mine

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

/-! ## Where each window's block lies -/

theorem index0 : ∀ t : Fin cfg0.N, win0_0.index t = ![min t.val 7, 0] := by decide +kernel
theorem index1 : ∀ t : Fin cfg0.N, win0_1.index t = ![min t.val 7, 0] := by decide +kernel
theorem index2 : ∀ t : Fin cfg0.N, win0_2.index t = ![(t.val - 8) / 8, (t.val - 8) % 8, 0] := by decide +kernel
theorem index3 : ∀ t : Fin cfg0.N, win0_3.index t = ![(t.val - 8) / 8, (t.val - 8) % 8, 0] := by decide +kernel
theorem index4 : ∀ t : Fin cfg0.N, win0_4.index t = ![(t.val - 8) / 8, 0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![0, 0] := by decide +kernel
theorem index9 : ∀ t : Fin cfg0.N, win0_9.index t = ![0, 0] := by decide +kernel
theorem index10 : ∀ t : Fin cfg0.N, win0_10.index t = ![0, 0] := by decide +kernel
theorem index11 : ∀ t : Fin cfg0.N, win0_11.index t = ![(t.val - 8) / 8, (t.val - 8) % 8, 0] := by decide +kernel

/-- There are forty grid points. -/
theorem point_lt (t : Fin cfg0.N) : t.val < 40 := lt_of_lt_of_eq t.isLt (show cfg0.N = 40 from N_0)

/-! ## The chunks of the first eight points -/

/-- Row `i` of coarse chunk `n` is row `1024 n + i` of all coarse points, read batch by batch. -/
theorem ck2_at (n : ℕ) (hn : n < 8) (i : Fin 1024) (a : Fin 128) :
    ck2 m c n (ix2 i a) = (m ((c : Thread nD τ).loc main_arg3) : FVec Ideal S4x2048x128 .f32) (ix3 ⟨(n * 1024 + i.val) / 2048, by omega⟩ ⟨(n * 1024 + i.val) % 2048, by omega⟩ a) := by
  have hp : (pt n).val = n := by show n % 40 = n; omega
  have hb : ck2 m c n (ix2 i a) = (V m c main_v0 : FVec Ideal S8192x128 .f32) (ix2 ⟨n * 1024 + i.val, by omega⟩ a) := by
    unfold ck2
    blk_ext [iblk, index0, hp]
  rw [hb]
  entry_read
  pointwise

/-- Row `i` of fine chunk `n` is row `4096 n + i` of all fine points, read batch by batch. -/
theorem ck1_at (n : ℕ) (hn : n < 8) (i : Fin 4096) (a : Fin 64) :
    ck1 m c n (ix2 i a) = (m ((c : Thread nD τ).loc main_arg1) : FVec Ideal S4x8192x64 .f32) (ix3 ⟨(n * 4096 + i.val) / 8192, by omega⟩ ⟨(n * 4096 + i.val) % 8192, by omega⟩ a) := by
  have hp : (pt n).val = n := by show n % 40 = n; omega
  have hb : ck1 m c n (ix2 i a) = (V m c main_v1 : FVec Ideal S32768x64 .f32) (ix2 ⟨n * 4096 + i.val, by omega⟩ a) := by
    unfold ck1
    blk_ext [iblk, index1, hp]
  rw [hb]
  entry_read
  pointwise

/-! ## The blocks of a query point -/

theorem fine_points_at (t : Fin cfg0.N) (h : 8 ≤ t.val) (z : Fin 1) (i : Fin 1024) (a : Fin 3) :
    iblk m c 2 t (ix3 z i a) = (m ((c : Thread nD τ).loc main_arg0) : FVec Ideal S4x8192x3 .f32)
      (ix3 ⟨(t.val - 8) / 8, by have := point_lt t; omega⟩ ⟨(t.val - 8) % 8 * 1024 + i.val, by omega⟩ a) := by
  blk_ext [iblk, V, index2]

theorem fine_features_at (t : Fin cfg0.N) (h : 8 ≤ t.val) (z : Fin 1) (i : Fin 1024) (a : Fin 64) :
    iblk m c 3 t (ix3 z i a) = (m ((c : Thread nD τ).loc main_arg1) : FVec Ideal S4x8192x64 .f32)
      (ix3 ⟨(t.val - 8) / 8, by have := point_lt t; omega⟩ ⟨(t.val - 8) % 8 * 1024 + i.val, by omega⟩ a) := by
  blk_ext [iblk, V, index3]

theorem coarse_points_at (t : Fin cfg0.N) (h : 8 ≤ t.val) (z : Fin 1) (k : Fin 2048) (a : Fin 3) :
    iblk m c 4 t (ix3 z k a) = (m ((c : Thread nD τ).loc main_arg2) : FVec Ideal S4x2048x3 .f32)
      (ix3 ⟨(t.val - 8) / 8, by have := point_lt t; omega⟩ k a) := by
  blk_ext [iblk, V, index4]

/-! ## The parameters, staged whole -/

theorem coarse_weights_at (t : Fin cfg0.N) (o : Fin 64) (a : Fin 128) :
    iblk m c 5 t (ix2 o a) = (m ((c : Thread nD τ).loc main_arg4) : FVec Ideal S64x128 .f32) (ix2 o a) := by
  blk_ext [iblk, V, index5]

theorem fine_weights_at (t : Fin cfg0.N) (o : Fin 64) (a : Fin 64) :
    iblk m c 6 t (ix2 o a) = (m ((c : Thread nD τ).loc main_arg8) : FVec Ideal S64x64 .f32) (ix2 o a) := by
  blk_ext [iblk, V, index6]

theorem coarse_gain_at (t : Fin cfg0.N) (z : Fin 1) (o : Fin 64) :
    iblk m c 7 t (ix2 z o) = (m ((c : Thread nD τ).loc main_arg6) : FVec Ideal S64 .f32) (ix1 o) := by
  have hb : iblk m c 7 t (ix2 z o) = (V m c main_v2 : FVec Ideal S1x64 .f32) (ix2 z o) := by
    blk_ext [iblk, index7]
  rw [hb]
  entry_read
  pointwise

theorem coarse_offset_at (t : Fin cfg0.N) (z : Fin 1) (o : Fin 64) :
    iblk m c 8 t (ix2 z o) = (m ((c : Thread nD τ).loc main_arg7) : FVec Ideal S64 .f32) (ix1 o) := by
  have hb : iblk m c 8 t (ix2 z o) = (V m c main_v3 : FVec Ideal S1x64 .f32) (ix2 z o) := by
    blk_ext [iblk, index8]
  rw [hb]
  entry_read
  pointwise

theorem fine_gain_at (t : Fin cfg0.N) (z : Fin 1) (o : Fin 64) :
    iblk m c 9 t (ix2 z o) = (m ((c : Thread nD τ).loc main_arg10) : FVec Ideal S64 .f32) (ix1 o) := by
  have hb : iblk m c 9 t (ix2 z o) = (V m c main_v4 : FVec Ideal S1x64 .f32) (ix2 z o) := by
    blk_ext [iblk, index9]
  rw [hb]
  entry_read
  pointwise

theorem fine_offset_at (t : Fin cfg0.N) (z : Fin 1) (o : Fin 64) :
    iblk m c 10 t (ix2 z o) = (m ((c : Thread nD τ).loc main_arg11) : FVec Ideal S64 .f32) (ix1 o) := by
  have hb : iblk m c 10 t (ix2 z o) = (V m c main_v5 : FVec Ideal S1x64 .f32) (ix2 z o) := by
    blk_ext [iblk, index10]
  rw [hb]
  entry_read
  pointwise

end Cert.KernelIdeal.Mine

end
-- ==== Proof.Value.Payloads.lean ====
/- What the kernel's vector operations hold at one index, at ideal values. -/
module

public import proofs.«01_k».proof.Proof.Gen.KernelIdeal
public import proofs.«01_k».proof.Proof.Gen.KernelIdeal.Skeleton
public import Idealize.ShloMosaic.Lib.Pointwise
public import Idealize.ShloMosaic.Lib.IdealHost

@[expose] public section

set_option maxRecDepth 16384

noncomputable section

namespace Cert.KernelIdeal.Mine

open Idealize.ShloMosaic Idealize.ShloMosaic.TcCoe Idealize.ShloMosaic.Tactic
open Cert.KernelIdeal Cert.KernelIdeal.Gen

/-! ## The sums of the first phase -/

/-- The coarse second-moment table starts at zero. -/
theorem pay1_at (a b : Fin 128) : k0_pay1 (F := Ideal) (ix2 a b) = 0 := by
  pointwise [k0_pay1]

/-- The coarse column sums start at zero. -/
theorem pay2_at (a : Fin 1) (b : Fin 128) : k0_pay2 (F := Ideal) (ix2 a b) = 0 := by
  pointwise [k0_pay2]

/-- The fine second-moment table starts at zero. -/
theorem pay3_at (a b : Fin 64) : k0_pay3 (F := Ideal) (ix2 a b) = 0 := by
  pointwise [k0_pay3]

/-- The fine column sums start at zero. -/
theorem pay4_at (a : Fin 1) (b : Fin 64) : k0_pay4 (F := Ideal) (ix2 a b) = 0 := by
  pointwise [k0_pay4]

/-- The coarse rows are kept as they come. -/
theorem pay5_at (x : FVec Ideal S1024x128 .f32) (a : Fin 1024) (b : Fin 128) :
    k0_pay5 (F := Ideal) (k0_pay12 (F := Ideal) x) (ix2 a b) = x (ix2 a b) := by
  pointwise [k0_pay5, k0_pay12]

/-- A chunk of coarse rows adds its second moments. -/
theorem pay14_at (x : FVec Ideal S1024x128 .f32) (g : FVec Ideal S128x128 .f32) (a b : Fin 128) :
    k0_pay14 (F := Ideal) x g (ix2 a b) = g (ix2 a b) + ∑ i, x (ix2 i a) * x (ix2 i b) := by
  pointwise [k0_pay14, k0_pay12]

/-- A chunk of coarse rows adds its column sums. -/
theorem pay15_at (x : FVec Ideal S1024x128 .f32) (s : FVec Ideal S1x128 .f32) (a : Fin 1) (b : Fin 128) :
    k0_pay15 (F := Ideal) x s (ix2 a b) = s (ix2 a b) + ∑ i, x (ix2 i b) := by
  pointwise [k0_pay15, k0_pay12]

/-- A chunk of fine rows adds its second moments. -/
theorem pay16_at (x : FVec Ideal S4096x64 .f32) (g : FVec Ideal S64x64 .f32) (a b : Fin 64) :
    k0_pay16 (F := Ideal) x g (ix2 a b) = g (ix2 a b) + ∑ i, x (ix2 i a) * x (ix2 i b) := by
  pointwise [k0_pay16, k0_pay13]

/-- A chunk of fine rows adds its column sums. -/
theorem pay17_at (x : FVec Ideal S4096x64 .f32) (s : FVec Ideal S1x64 .f32) (a : Fin 1) (b : Fin 64) :
    k0_pay17 (F := Ideal) x s (ix2 a b) = s (ix2 a b) + ∑ i, x (ix2 i b) := by
  pointwise [k0_pay17, k0_pay13]

/-! ## The scales and shifts -/

/-- The coarse projected mean. -/
theorem pay18_at (s : FVec Ideal S1x128 .f32) (w : FVec Ideal S64x128 .f32) (a : Fin 1) (o : Fin 64) :
    k0_pay18 (F := Ideal) s w (ix2 a o) =
      ∑ c, s (ix2 a c) * Ideal.ofBits .f32 0x39000000#32 * w (ix2 o c) := by
  pointwise [k0_pay18]

/-- The coarse scale. -/
theorem pay19_at (q : FVec Ideal S128x128 .f32) (s : FVec Ideal S1x128 .f32) (w : FVec Ideal S64x128 .f32)
    (g : FVec Ideal S1x64 .f32) (a : Fin 1) (o : Fin 64) :
    k0_pay19 (F := Ideal) q s w g (ix2 a o) =
      Ideal.div (g (ix2 a o)) (Ideal.sqrt
        ((∑ c, (∑ d, w (ix2 o d) * q (ix2 d c)) * w (ix2 o c)) * Ideal.ofBits .f32 0x39000000#32
          - k0_pay18 (F := Ideal) s w (ix2 a o) * k0_pay18 (F := Ideal) s w (ix2 a o)
          + Ideal.ofBits .f32 0x3727C5AC#32)) := by
  pointwise [k0_pay19]

/-- The coarse shift. -/
theorem pay20_at (q : FVec Ideal S128x128 .f32) (s : FVec Ideal S1x128 .f32) (w : FVec Ideal S64x128 .f32)
    (g be : FVec Ideal S1x64 .f32) (a : Fin 1) (o : Fin 64) :
    k0_pay20 (F := Ideal) q s w g be (ix2 a o) =
      be (ix2 a o) - k0_pay18 (F := Ideal) s w (ix2 a o) * k0_pay19 (F := Ideal) q s w g (ix2 a o) := by
  pointwise [k0_pay20]

/-- The fine projected mean. -/
theorem pay6_at (s : FVec Ideal S1x64 .f32) (w : FVec Ideal S64x64 .f32) (a : Fin 1) (o : Fin 64) :
    k0_pay6 (F := Ideal) s w k0_pay23 (ix2 a o) =
      ∑ c, s (ix2 a c) * Ideal.ofBits .f32 0x38000000#32 * w (ix2 o c) := by
  pointwise [k0_pay6, k0_pay23]

/-- The fine scale. -/
theorem pay8_at (q : FVec Ideal S64x64 .f32) (s : FVec Ideal S1x64 .f32) (w : FVec Ideal S64x64 .f32)
    (g : FVec Ideal S1x64 .f32) (a : Fin 1) (o : Fin 64) :
    k0_pay8 (F := Ideal) q s w (k0_pay21 (F := Ideal) g) k0_pay23 (ix2 a o) =
      Ideal.div (g (ix2 a o)) (Ideal.sqrt
        ((∑ c, (∑ d, w (ix2 o d) * q (ix2 d c)) * w (ix2 o c)) * Ideal.ofBits .f32 0x38000000#32
          - k0_pay6 (F := Ideal) s w k0_pay23 (ix2 a o) * k0_pay6 (F := Ideal) s w k0_pay23 (ix2 a o)
          + Ideal.ofBits .f32 0x3727C5AC#32)) := by
  pointwise [k0_pay8, k0_pay7, k0_pay21, k0_pay23]

/-- The fine shift. -/
theorem pay9_at (q : FVec Ideal S64x64 .f32) (s : FVec Ideal S1x64 .f32) (w : FVec Ideal S64x64 .f32)
    (g be : FVec Ideal S1x64 .f32) (a : Fin 1) (o : Fin 64) :
    k0_pay9 (F := Ideal) q s w (k0_pay21 (F := Ideal) g) (k0_pay22 (F := Ideal) be) k0_pay23 (ix2 a o) =
      be (ix2 a o) - k0_pay6 (F := Ideal) s w k0_pay23 (ix2 a o)
        * k0_pay8 (F := Ideal) q s w (k0_pay21 (F := Ideal) g) k0_pay23 (ix2 a o) := by
  pointwise [k0_pay9, k0_pay8, k0_pay22]

/-- The coarse features after normalising and cutting at zero. -/
theorem pay10_at (sc sh : FVec Ideal S1x64 .f32) (x : FVec Ideal S8192x128 .f32) (w : FVec Ideal S64x128 .f32)
    (a : Fin 8192) (o : Fin 64) :
    k0_pay10 (F := Ideal) sc sh x w (ix2 a o) =
      max ((∑ c, x (ix2 a c) * w (ix2 o c)) * sc (ix2 0 o) + sh (ix2 0 o)) 0 := by
  pointwise [k0_pay10]

/-! ## The distances and the three rounds -/

/-- The squared length of a fine point. -/
theorem pay25_at (p : FVec Ideal S1x1024x3 .f32) (a : Fin 1024) (z : Fin 1) :
    k0_pay25 (F := Ideal) p (ix2 a z) = ∑ k, p (ix3 0 a k) * p (ix3 0 a k) := by
  pointwise [k0_pay25, k0_pay24]

/-- The squared distance less the fine point's squared length. -/
theorem pay26_at (p : FVec Ideal S1x1024x3 .f32) (q : FVec Ideal S1x2048x3 .f32) (a : Fin 1024) (b : Fin 2048) :
    k0_pay26 (F := Ideal) p q (ix2 a b) =
      ∑ k, Ideal.ofBits .f32 0xC0000000#32 * p (ix3 0 a k) * q (ix3 0 b k) + ∑ k, q (ix3 0 b k) * q (ix3 0 b k) := by
  pointwise [k0_pay26, k0_pay24]

/-- The smallest of a row. -/
theorem pay29_at (p : FVec Ideal S1x1024x3 .f32) (q : FVec Ideal S1x2048x3 .f32) (a : Fin 1024) (z : Fin 1) :
    k0_pay29 (F := Ideal) p q (ix2 a z) =
      Finset.univ.fold min (Ideal.ofBits .f32 0x7F800000#32) fun k => k0_pay26 (F := Ideal) p q (ix2 a k) := by
  pointwise [k0_pay29]

/-- The smallest of a row, along the row. -/
theorem pay30_at (p : FVec Ideal S1x1024x3 .f32) (q : FVec Ideal S1x2048x3 .f32) (a : Fin 1024) (b : Fin 2048) :
    k0_pay30 (F := Ideal) p q (ix2 a b) = k0_pay29 (F := Ideal) p q (ix2 a 0) := by
  pointwise [k0_pay30]

/-- The first mask. -/
theorem pay31_at (x y : FVec Ideal S1024x2048 .f32) (a : Fin 1024) (b : Fin 2048) :
    k0_pay31 (F := Ideal) x y (ix2 a b) = BitVec.ofBool (decide (x (ix2 a b) = y (ix2 a b))) := by
  pointwise [k0_pay31]

/-- The row with its smallest taken out. -/
theorem pay32_at (x y : FVec Ideal S1024x2048 .f32) (a : Fin 1024) (b : Fin 2048) :
    k0_pay32 (F := Ideal) x y (ix2 a b) =
      if x (ix2 a b) = y (ix2 a b) then Ideal.ofBits .f32 0x7F800000#32 else x (ix2 a b) := by
  pointwise [k0_pay32, k0_pay31]

/-- The second smallest. -/
theorem pay34_at (x y : FVec Ideal S1024x2048 .f32) (a : Fin 1024) (z : Fin 1) :
    k0_pay34 (F := Ideal) x y (ix2 a z) =
      Finset.univ.fold min (Ideal.ofBits .f32 0x7F800000#32) fun k => k0_pay32 (F := Ideal) x y (ix2 a k) := by
  pointwise [k0_pay34]

/-- The second mask. -/
theorem pay35_at (x y : FVec Ideal S1024x2048 .f32) (a : Fin 1024) (b : Fin 2048) :
    k0_pay35 (F := Ideal) x y (ix2 a b) =
      BitVec.ofBool (decide (k0_pay32 (F := Ideal) x y (ix2 a b) = k0_pay34 (F := Ideal) x y (ix2 a 0))) := by
  pointwise [k0_pay35]

/-- The row with its two smallest taken out. -/
theorem pay36_at (x y : FVec Ideal S1024x2048 .f32) (a : Fin 1024) (b : Fin 2048) :
    k0_pay36 (F := Ideal) x y (ix2 a b) =
      if k0_pay32 (F := Ideal) x y (ix2 a b) = k0_pay34 (F := Ideal) x y (ix2 a 0) then Ideal.ofBits .f32 0x7F800000#32
      else k0_pay32 (F := Ideal) x y (ix2 a b) := by
  pointwise [k0_pay36]
  rw [pay35_at]
  unfold Scalar.select
  by_cases h : k0_pay32 (F := Ideal) x y (ix2 a b) = k0_pay34 (F := Ideal) x y (ix2 a 0) <;> simp [h]

/-- The third smallest. -/
theorem pay40_at (x y : FVec Ideal S1024x2048 .f32) (a : Fin 1024) (z : Fin 1) :
    k0_pay40 (F := Ideal) x y (ix2 a z) =
      Finset.univ.fold min (Ideal.ofBits .f32 0x7F800000#32) fun k => k0_pay36 (F := Ideal) x y (ix2 a k) := by
  pointwise [k0_pay40]

/-- The third mask. -/
theorem pay41_at (x y : FVec Ideal S1024x2048 .f32) (a : Fin 1024) (b : Fin 2048) :
    k0_pay41 (F := Ideal) x y (ix2 a b) =
      BitVec.ofBool (decide (k0_pay36 (F := Ideal) x y (ix2 a b) = k0_pay40 (F := Ideal) x y (ix2 a 0))) := by
  pointwise [k0_pay41]

/-- The first two weights' sum. -/
theorem pay38_at (n z : FVec Ideal S1024x1 .f32) (x y : FVec Ideal S1024x2048 .f32) (a : Fin 1024) (b : Fin 1) :
    k0_pay38 (F := Ideal) n x k0_pay28 z y (ix2 a b) =
      Ideal.div 1 (max (z (ix2 a b) + n (ix2 a b)) 0 + Ideal.ofBits .f32 0x322BCC77#32) +
      Ideal.div 1 (max (k0_pay34 (F := Ideal) x y (ix2 a b) + n (ix2 a b)) 0 + Ideal.ofBits .f32 0x322BCC77#32) := by
  pointwise [k0_pay38, k0_pay37, k0_pay33, k0_pay28]

/-- The first two weights at their places. -/
theorem pay39_at (n z : FVec Ideal S1024x1 .f32) (x y : FVec Ideal S1024x2048 .f32) (a : Fin 1024) (b : Fin 2048) :
    k0_pay39 (F := Ideal) n x k0_pay27 z y (ix2 a b) =
      Scalar.select (k0_pay31 (F := Ideal) x y (ix2 a b))
        (Ideal.div 1 (max (z (ix2 a 0) + n (ix2 a 0)) 0 + Ideal.ofBits .f32 0x322BCC77#32)) 0 +
      Scalar.select (k0_pay35 (F := Ideal) x y (ix2 a b))
        (Ideal.div 1 (max (k0_pay34 (F := Ideal) x y (ix2 a 0) + n (ix2 a 0)) 0 + Ideal.ofBits .f32 0x322BCC77#32)) 0 := by
  pointwise [k0_pay39, k0_pay37, k0_pay33, k0_pay27]

/-- The third weight's divisor. -/
theorem pay42_at (n : FVec Ideal S1024x1 .f32) (x y : FVec Ideal S1024x2048 .f32) (a : Fin 1024) (b : Fin 1) :
    k0_pay42 (F := Ideal) n x y (ix2 a b) =
      max (k0_pay40 (F := Ideal) x y (ix2 a b) + n (ix2 a b)) 0 + Ideal.ofBits .f32 0x322BCC77#32 := by
  pointwise [k0_pay42]

/-- The third weight's numerator. -/
theorem pay43_at (a : Fin 1024) (b : Fin 1) : k0_pay43 (F := Ideal) (ix2 a b) = 1 := by
  pointwise [k0_pay43]

/-- The output block. -/
theorem pay11_at (v80 : FVec Ideal S1024x1 .f32) (v85 : FVec Ideal S1024x2048 .f32) (v89 : IVec S1024x2048 1)
    (v94 v95 : FVec Ideal S1024x1 .f32) (h : FVec Ideal S2048x64 .f32) (x : FVec Ideal S1x1024x64 .f32)
    (w : FVec Ideal S64x64 .f32) (sc sh : FVec Ideal S1x64 .f32) (z : Fin 1) (a : Fin 1024) (o : Fin 64) :
    k0_pay11 (F := Ideal) v80 v85 v89 v94 v95 h x w sc sh (ix3 z a o) =
      (∑ k, (v85 (ix2 a k) + Scalar.select (v89 (ix2 a k)) (Ideal.div (v95 (ix2 a 0)) (v94 (ix2 a 0))) 0)
        * h (ix2 k o)) * Ideal.div 1 (v80 (ix2 a 0) + Ideal.div (v95 (ix2 a 0)) (v94 (ix2 a 0))) +
      max ((∑ c, x (ix3 0 a c) * w (ix2 o c)) * sc (ix2 0 o) + sh (ix2 0 o)) 0 := by
  pointwise [k0_pay11]

end Cert.KernelIdeal.Mine
-- ==== Proof.Value.Near.lean ====
/- The three nearest of a row, found by three rounds of taking the smallest out, and the weighted mean over them. -/
module

public import Idealize.ShloMosaic.PureOps.Ideal.Laws
public import Idealize.ShloMosaic.Lib.IdealHost

@[expose] public section

noncomputable section

namespace Cert.Mine

open Idealize.ShloMosaic

/-! ## Reals among the extended reals -/

/-- A sum of reals, taken among the extended reals. -/
theorem sum_coe {ι : Type*} (s : Finset ι) (f : ι → ℝ) : ∑ i ∈ s, ((f i : ℝ) : EReal) = ((∑ i ∈ s, f i : ℝ) : EReal) :=
  (map_sum (⟨⟨Real.toEReal, EReal.coe_zero⟩, EReal.coe_add⟩ : ℝ →+ EReal) f s).symm

/-- A quotient of reals by one that is not zero. -/
theorem div_real {y : ℝ} (h : y ≠ 0) (x : ℝ) : Ideal.div (x : EReal) (y : EReal) = ((x / y : ℝ) : EReal) := by
  rw [Ideal.div_coe h, ← EReal.coe_mul, mul_one_div]

/-- The larger of two reals. -/
theorem max_real (x y : ℝ) : max (x : EReal) (y : EReal) = ((max x y : ℝ) : EReal) :=
  (EReal.coe_strictMono.monotone.map_max).symm

/-- The pattern of infinity. -/
theorem ofBits_inf : Ideal.ofBits .f32 0x7F800000#32 = ⊤ := by
  simp [Ideal.ofBits, Ideal.ieee]

/-- The small number added to a distance. -/
def tiny : ℝ := 11258999 / 2 ^ 50

/-- It is positive. -/
theorem tiny_pos : 0 < tiny := by norm_num [tiny]

/-- Its pattern. -/
theorem ofBits_tiny : Ideal.ofBits .f32 0x322BCC77#32 = (tiny : EReal) := by
  simp [Ideal.ofBits, Ideal.ieee, -EReal.coe_mul]; norm_num [tiny]

/-- The pattern of minus two. -/
theorem ofBits_neg_two : Ideal.ofBits .f32 0xC0000000#32 = ((-2 : ℝ) : EReal) := by
  simp [Ideal.ofBits, Ideal.ieee, -EReal.coe_mul, -EReal.coe_neg]; norm_num

/-- The pattern of two. -/
theorem ofBits_two : Ideal.ofBits .f32 0x40000000#32 = ((2 : ℝ) : EReal) := by
  simp [Ideal.ofBits, Ideal.ieee, -EReal.coe_mul]; norm_num

/-! ## Three rounds -/

variable {n : ℕ}

/-- The smallest of a row. -/
def least (E : Fin n → EReal) : EReal := Finset.univ.fold min ⊤ E

/-- The row with its smallest taken out. -/
def dropLeast (E : Fin n → EReal) (k : Fin n) : EReal := if E k = least E then ⊤ else E k

/-- The smallest is the entry no other is below. -/
theorem least_eq (E : Fin n → EReal) (s : Fin n) (h : ∀ k, E s ≤ E k) : least E = E s := by
  refine le_antisymm ?_ ?_
  · exact ((Finset.le_fold_min (s := Finset.univ) (f := E) (b := (⊤ : EReal)) (least E)).mp le_rfl).2 s (Finset.mem_univ s)
  · exact (Finset.le_fold_min (s := Finset.univ) (f := E) (b := (⊤ : EReal)) (E s)).mpr ⟨le_top, fun k _ => h k⟩

/-- A row whose smallest is at one place only: the smallest, where it is, and the row without it. -/
theorem least_round (E : Fin n → EReal) (s : Fin n) (h : ∀ k, k ≠ s → E s < E k) :
    least E = E s ∧ (∀ k, E k = least E ↔ k = s) ∧ dropLeast E = Function.update E s ⊤ := by
  have h1 : least E = E s := least_eq E s fun k => by
    by_cases hk : k = s
    · rw [hk]
    · exact (h k hk).le
  have h2 : ∀ k, E k = least E ↔ k = s := fun k => by
    rw [h1]
    constructor
    · intro e
      by_contra hk
      exact absurd e (h k hk).ne'
    · rintro rfl; rfl
  refine ⟨h1, h2, ?_⟩
  funext k
  unfold dropLeast
  by_cases hk : k = s
  · rw [if_pos ((h2 k).mpr hk), hk, Function.update_self]
  · rw [if_neg (fun e => hk ((h2 k).mp e)), Function.update_of_ne hk]

/-- Three places of a row, nearest first, every other place being farther. -/
structure Nearest (e : Fin n → ℝ) (σ : Fin 3 → Fin n) : Prop where
  /-- The first is nearer than the second. -/
  lt01 : e (σ 0) < e (σ 1)
  /-- The second is nearer than the third. -/
  lt12 : e (σ 1) < e (σ 2)
  /-- Every other place is farther than the third. -/
  lt : ∀ k, k ≠ σ 0 → k ≠ σ 1 → k ≠ σ 2 → e (σ 2) < e k

/-- The three rounds find the three nearest. -/
theorem Nearest.rounds {e : Fin n → ℝ} {σ : Fin 3 → Fin n} (h : Nearest e σ) (E : Fin n → EReal) (hE : ∀ k, E k = (e k : EReal)) :
    (least E = (e (σ 0) : EReal) ∧ ∀ k, E k = least E ↔ k = σ 0) ∧
    (least (dropLeast E) = (e (σ 1) : EReal) ∧ ∀ k, dropLeast E k = least (dropLeast E) ↔ k = σ 1) ∧
    (least (dropLeast (dropLeast E)) = (e (σ 2) : EReal) ∧
      ∀ k, dropLeast (dropLeast E) k = least (dropLeast (dropLeast E)) ↔ k = σ 2) := by
  have h01 := h.lt01
  have h12 := h.lt12
  have n10 : σ 1 ≠ σ 0 := fun q => by rw [q] at h01; exact lt_irrefl _ h01
  have n21 : σ 2 ≠ σ 1 := fun q => by rw [q] at h12; exact lt_irrefl _ h12
  have n20 : σ 2 ≠ σ 0 := fun q => by rw [q] at h12; exact lt_asymm h01 h12
  obtain ⟨a1, a2, a3⟩ := least_round E (σ 0) fun k hk => by
    rw [hE, hE, EReal.coe_lt_coe_iff]
    by_cases k1 : k = σ 1
    · rw [k1]; exact h01
    by_cases k2 : k = σ 2
    · rw [k2]; exact h01.trans h12
    exact h01.trans (h12.trans (h.lt k hk k1 k2))
  have e1 : dropLeast E (σ 1) = (e (σ 1) : EReal) := by rw [a3, Function.update_of_ne n10, hE]
  obtain ⟨b1, b2, b3⟩ := least_round (dropLeast E) (σ 1) fun k hk => by
    rw [e1, a3]
    by_cases k0 : k = σ 0
    · rw [k0, Function.update_self]; exact EReal.coe_lt_top _
    rw [Function.update_of_ne k0, hE, EReal.coe_lt_coe_iff]
    by_cases k2 : k = σ 2
    · rw [k2]; exact h12
    exact h12.trans (h.lt k k0 hk k2)
  have e2 : dropLeast (dropLeast E) (σ 2) = (e (σ 2) : EReal) := by
    rw [b3, Function.update_of_ne n21, a3, Function.update_of_ne n20, hE]
  obtain ⟨c1, c2, -⟩ := least_round (dropLeast (dropLeast E)) (σ 2) fun k hk => by
    rw [e2, b3]
    by_cases k1 : k = σ 1
    · rw [k1, Function.update_self]; exact EReal.coe_lt_top _
    rw [Function.update_of_ne k1, a3]
    by_cases k0 : k = σ 0
    · rw [k0, Function.update_self]; exact EReal.coe_lt_top _
    rw [Function.update_of_ne k0, hE, EReal.coe_lt_coe_iff]
    exact h.lt k k0 k1 hk
  exact ⟨⟨a1.trans (hE _), a2⟩, ⟨b1.trans e1, b2⟩, ⟨c1.trans e2, c2⟩⟩

/-- A selection by a decided condition. -/
theorem select_ofBool {α : Type} (p : Prop) [Decidable p] (a b : α) :
    Scalar.select (BitVec.ofBool (decide p)) a b = if p then a else b := by
  unfold Scalar.select
  by_cases h : p <;> simp [h]

/-- The weight of a squared distance. -/
def weight (d : ℝ) : ℝ := 1 / (max d 0 + tiny)

/-- It is positive. -/
theorem weight_pos (d : ℝ) : 0 < weight d :=
  one_div_pos.mpr (add_pos_of_nonneg_of_pos (le_max_right _ _) tiny_pos)

/-- The weight as both programs compute it. -/
theorem weight_eq (d : ℝ) : Ideal.div 1 (max (d : EReal) 0 + Ideal.ofBits .f32 0x322BCC77#32) = (weight d : EReal) := by
  rw [ofBits_tiny, ← EReal.coe_zero, max_real, ← EReal.coe_add, ← EReal.coe_one, div_real]
  · rfl
  · exact (add_pos_of_nonneg_of_pos (le_max_right _ _) tiny_pos).ne'

/-- The weighted mean over three places: as a sum over the whole row of weights that are zero elsewhere, times the
    reciprocal of the weights' sum, and as the sum over the three places of the value times the weight's share. -/
theorem weighted_mean (r : Fin 3 → ℝ) (hr : ∀ i, 0 < r i) (σ : Fin 3 → Fin n) (h : Fin n → EReal) (hh : ∀ k, 0 ≤ h k) :
    (∑ k, (((if k = σ 0 then (r 0 : EReal) else 0) + (if k = σ 1 then (r 1 : EReal) else 0)) +
        (if k = σ 2 then (r 2 : EReal) else 0)) * h k) * Ideal.div 1 ((r 0 : EReal) + (r 1 : EReal) + (r 2 : EReal)) =
      ∑ i : Fin 3, h (σ i) * Ideal.div (r i : EReal) (∑ j : Fin 3, (r j : EReal)) := by
  have n0 : ∀ i, (0 : EReal) ≤ (r i : EReal) := fun i => EReal.coe_nonneg.mpr (hr i).le
  have ni : ∀ i (k : Fin n), (0 : EReal) ≤ if k = σ i then (r i : EReal) else 0 := fun i k => by
    split_ifs
    · exact n0 i
    · exact le_rfl
  have hs : (0 : ℝ) < r 0 + r 1 + r 2 := add_pos (add_pos (hr 0) (hr 1)) (hr 2)
  have hsum : ∑ j : Fin 3, (r j : EReal) = ((r 0 + r 1 + r 2 : ℝ) : EReal) := by
    rw [Fin.sum_univ_three]; push_cast; rfl
  have hc : (0 : EReal) ≤ ((1 / (r 0 + r 1 + r 2) : ℝ) : EReal) := EReal.coe_nonneg.mpr (one_div_pos.mpr hs).le
  have hk : ∀ k, (((if k = σ 0 then (r 0 : EReal) else 0) + (if k = σ 1 then (r 1 : EReal) else 0)) +
        (if k = σ 2 then (r 2 : EReal) else 0)) * h k =
      (if k = σ 0 then (r 0 : EReal) * h k else 0) + (if k = σ 1 then (r 1 : EReal) * h k else 0) +
        (if k = σ 2 then (r 2 : EReal) * h k else 0) := fun k => by
    rw [EReal.right_distrib_of_nonneg (add_nonneg (ni 0 k) (ni 1 k)) (ni 2 k),
      EReal.right_distrib_of_nonneg (ni 0 k) (ni 1 k)]
    simp only [ite_mul, zero_mul]
  rw [Finset.sum_congr rfl fun k _ => hk k]
  simp only [Finset.sum_add_distrib, Finset.sum_ite_eq', Finset.mem_univ, if_true]
  rw [hsum, show (r 0 : EReal) + (r 1 : EReal) + (r 2 : EReal) = ((r 0 + r 1 + r 2 : ℝ) : EReal) by push_cast; rfl,
    ← EReal.coe_one, div_real hs.ne']
  have hp : ∀ i, (0 : EReal) ≤ (r i : EReal) * h (σ i) := fun i => mul_nonneg (n0 i) (hh _)
  rw [EReal.right_distrib_of_nonneg (add_nonneg (hp 0) (hp 1)) (hp 2), EReal.right_distrib_of_nonneg (hp 0) (hp 1),
    Fin.sum_univ_three]
  have hi : ∀ i, (r i : EReal) * h (σ i) * ((1 / (r 0 + r 1 + r 2) : ℝ) : EReal) =
      h (σ i) * Ideal.div (r i : EReal) ((r 0 + r 1 + r 2 : ℝ) : EReal) := fun i => by
    rw [Ideal.div_coe hs.ne', mul_comm (r i : EReal) (h (σ i)), mul_assoc]
  rw [hi, hi, hi]

end Cert.Mine
-- ==== Proof.Value.Norm.lean ====
/- Normalising by the mean and the spread of a linear map's values: from the sums of products of the inputs, as the kernel
   does, and from the values themselves, as the reference does. -/
module

public import proofs.«01_k».proof.Proof.Value.Near

@[expose] public section

noncomputable section

namespace Cert.Mine

open Idealize.ShloMosaic

/-- The small number added to a variance. -/
def small : ℝ := 10995116 / 2 ^ 40

/-- It is positive. -/
theorem small_pos : 0 < small := by norm_num [small]

/-- Its pattern. -/
theorem ofBits_small : Ideal.ofBits .f32 0x3727C5AC#32 = (small : EReal) := by
  simp [Ideal.ofBits, Ideal.ieee, -EReal.coe_mul]; norm_num [small]

/-- The pattern of the reciprocal of the number of coarse rows. -/
theorem ofBits_inv_8192 : Ideal.ofBits .f32 0x39000000#32 = ((1 / 8192 : ℝ) : EReal) := by
  simp [Ideal.ofBits, Ideal.ieee, -EReal.coe_mul]; norm_num

/-- The pattern of the reciprocal of the number of fine rows. -/
theorem ofBits_inv_32768 : Ideal.ofBits .f32 0x38000000#32 = ((1 / 32768 : ℝ) : EReal) := by
  simp [Ideal.ofBits, Ideal.ieee, -EReal.coe_mul]; norm_num

/-- The pattern of the number of coarse rows. -/
theorem ofBits_8192 : Ideal.ofBits .f32 0x46000000#32 = ((8192 : ℝ) : EReal) := by
  simp [Ideal.ofBits, Ideal.ieee, -EReal.coe_mul]; norm_num

/-- The pattern of the number of fine rows. -/
theorem ofBits_32768 : Ideal.ofBits .f32 0x47000000#32 = ((32768 : ℝ) : EReal) := by
  simp [Ideal.ofBits, Ideal.ieee, -EReal.coe_mul]; norm_num

/-! ## Over the reals -/

variable {ι κ : Type} [Fintype ι] [Fintype κ] (x : ι → κ → ℝ) (w : κ → ℝ) (b M : ℝ)

/-- The linear map's value at a row. -/
def lin (i : ι) : ℝ := ∑ c, x i c * w c

/-- The mean of the values. -/
def mean : ℝ := (∑ i, lin x w i) / M

/-- The mean of the squared distances from the mean. -/
def spread : ℝ := (∑ i, (lin x w i - mean x w M) ^ 2) / M

/-- The mean, from the column sums. -/
theorem mean_of_sums : ∑ c, (∑ i, x i c) * (1 / M) * w c = mean x w M := by
  unfold mean lin
  rw [Finset.sum_comm, Finset.sum_div]
  refine Finset.sum_congr rfl fun c _ => ?_
  rw [← Finset.sum_mul]
  ring

/-- The sum of the squares, from the second moments. -/
theorem squares_of_sums : ∑ c, (∑ d, w d * (∑ i, x i d * x i c)) * w c = ∑ i, lin x w i ^ 2 := by
  have h : ∀ i, lin x w i ^ 2 = ∑ c, ∑ d, w d * (x i d * x i c) * w c := fun i => by
    unfold lin
    rw [sq, Finset.sum_mul_sum, Finset.sum_comm]
    exact Finset.sum_congr rfl fun c _ => Finset.sum_congr rfl fun d _ => by ring
  rw [Finset.sum_congr rfl fun i _ => h i, Finset.sum_comm]
  refine Finset.sum_congr rfl fun c _ => ?_
  rw [Finset.sum_comm, Finset.sum_mul]
  refine Finset.sum_congr rfl fun d _ => ?_
  rw [Finset.mul_sum, Finset.sum_mul]

/-- The spread is the mean square less the squared mean. -/
theorem spread_of_squares (hM : (Fintype.card ι : ℝ) = M) (h0 : M ≠ 0) :
    (∑ i, lin x w i ^ 2) * (1 / M) - mean x w M * mean x w M = spread x w M := by
  have hs : ∑ i, lin x w i = M * mean x w M := by unfold mean; field_simp
  have he : ∑ i, (lin x w i - mean x w M) ^ 2 = ∑ i, lin x w i ^ 2 - M * mean x w M ^ 2 := by
    simp only [sub_sq, Finset.sum_add_distrib, Finset.sum_sub_distrib, Finset.sum_const, Finset.card_univ, nsmul_eq_mul, hM]
    rw [← Finset.sum_mul, ← Finset.mul_sum, hs]
    ring
  unfold spread
  rw [he]
  field_simp

/-- The spread is not negative. -/
theorem spread_nonneg (h0 : 0 < M) : 0 ≤ spread x w M :=
  div_nonneg (Finset.sum_nonneg fun _ _ => sq_nonneg _) h0.le

/-- The mean of the values moved by a constant. -/
theorem mean_moved (hM : (Fintype.card ι : ℝ) = M) (h0 : M ≠ 0) : (∑ i, (lin x w i + b)) / M = mean x w M + b := by
  unfold mean
  rw [Finset.sum_add_distrib, Finset.sum_const, Finset.card_univ, nsmul_eq_mul, hM]
  field_simp

/-- The square root of the spread and a small number. -/
def root : ℝ := Real.sqrt (spread x w M + small)

/-- It is positive. -/
theorem root_pos (h0 : 0 < M) : 0 < root x w M :=
  Real.sqrt_pos.mpr (add_pos_of_nonneg_of_pos (spread_nonneg x w M h0) small_pos)

/-- The square root at ideal values. -/
theorem sqrt_spread (h0 : 0 < M) : Ideal.sqrt ((spread x w M + small : ℝ) : EReal) = (root x w M : EReal) := by
  rw [Ideal.sqrt_coe, if_neg (not_lt.mpr (add_pos_of_nonneg_of_pos (spread_nonneg x w M h0) small_pos).le)]
  rfl

/-! ## The normalised value, at ideal values -/

/-- A normalised value cut at zero, the reference's way. -/
def normed (g : ℝ) (be : EReal) (i : ι) : EReal :=
  max ((((lin x w i + b) - (mean x w M + b)) / root x w M * g : ℝ) + be) 0

/-- The kernel's scale. -/
theorem scale_eq (hM : (Fintype.card ι : ℝ) = M) (h0 : 0 < M) (g : ℝ) :
    Ideal.div (g : EReal) (Ideal.sqrt
      ((∑ c, (∑ d, (w d : EReal) * (∑ i, (x i d : EReal) * (x i c : EReal))) * (w c : EReal)) * ((1 / M : ℝ) : EReal)
        - (mean x w M : EReal) * (mean x w M : EReal) + (small : EReal))) = ((g / root x w M : ℝ) : EReal) := by
  have e1 : ∑ c, (∑ d, (w d : EReal) * (∑ i, (x i d : EReal) * (x i c : EReal))) * (w c : EReal) =
      ((∑ i, lin x w i ^ 2 : ℝ) : EReal) := by
    rw [← squares_of_sums]
    simp only [← EReal.coe_mul, sum_coe]
  rw [e1, ← EReal.coe_mul, ← EReal.coe_mul, ← EReal.coe_sub, spread_of_squares x w M hM h0.ne', ← EReal.coe_add,
    sqrt_spread x w M h0, div_real (root_pos x w M h0).ne']

/-- The kernel's projected mean. -/
theorem proj_eq : ∑ c, (∑ i, (x i c : EReal)) * ((1 / M : ℝ) : EReal) * (w c : EReal) = (mean x w M : EReal) := by
  rw [← mean_of_sums]
  simp only [sum_coe, ← EReal.coe_mul]

/-- The kernel's value is the reference's. -/
theorem normed_of_scale (g : ℝ) (be : EReal) (i : ι) :
    max ((∑ c, (x i c : EReal) * (w c : EReal)) * ((g / root x w M : ℝ) : EReal)
      + (be - (mean x w M : EReal) * ((g / root x w M : ℝ) : EReal))) 0 = normed x w b M g be i := by
  unfold normed
  simp only [← EReal.coe_mul, sum_coe]
  rw [sub_eq_add_neg, add_comm be, ← add_assoc, ← EReal.coe_neg, ← EReal.coe_add]
  congr 3
  unfold lin
  ring

/-- A normalised value is not negative. -/
theorem normed_nonneg (g : ℝ) (be : EReal) (i : ι) : 0 ≤ normed x w b M g be i := le_max_right _ _

/-- The reference's mean. -/
theorem ref_mean (hM : (Fintype.card ι : ℝ) = M) (h0 : M ≠ 0) :
    Ideal.div (∑ i, ((∑ c, (x i c : EReal) * (w c : EReal)) + (b : EReal))) (M : EReal) = ((mean x w M + b : ℝ) : EReal) := by
  simp only [← EReal.coe_mul, sum_coe, ← EReal.coe_add]
  rw [div_real h0, ← mean_moved x w b M hM h0]
  rfl

/-- The reference's variance. -/
theorem ref_spread (h0 : M ≠ 0) :
    Ideal.div (∑ i, (((∑ c, (x i c : EReal) * (w c : EReal)) + (b : EReal)) - ((mean x w M + b : ℝ) : EReal)) *
      (((∑ c, (x i c : EReal) * (w c : EReal)) + (b : EReal)) - ((mean x w M + b : ℝ) : EReal))) (M : EReal) =
      (spread x w M : EReal) := by
  simp only [← EReal.coe_mul, sum_coe, ← EReal.coe_add, ← EReal.coe_sub]
  rw [div_real h0]
  unfold spread
  congr 2
  refine Finset.sum_congr rfl fun i _ => ?_
  unfold lin
  ring

/-- The reference's value. -/
theorem ref_normed (h0 : 0 < M) (g : ℝ) (be : EReal) (i : ι) :
    max (Ideal.div (((∑ c, (x i c : EReal) * (w c : EReal)) + (b : EReal)) - ((mean x w M + b : ℝ) : EReal))
      (Ideal.sqrt ((spread x w M : EReal) + (small : EReal))) * (g : EReal) + be) 0 = normed x w b M g be i := by
  simp only [← EReal.coe_mul, sum_coe, ← EReal.coe_add, ← EReal.coe_sub]
  rw [sqrt_spread x w M h0, div_real (root_pos x w M h0).ne', ← EReal.coe_mul]
  rfl

end Cert.Mine
-- ==== Proof.Value.Sums.lean ====
/- The kernel's sums over the chunks are sums over all points, and what it makes of them: the transformed coarse features
   and the fine scale and shift. -/
module

public import proofs.«01_k».proof.Proof.Value.Blocks
public import proofs.«01_k».proof.Proof.Value.Payloads
public import proofs.«01_k».proof.Proof.Value.Norm
public import Idealize.ShloMosaic.Lib.Pointwise.IndexBridge

@[expose] public section

set_option maxRecDepth 16384

noncomputable section

namespace Cert.KernelIdeal.Mine

open Idealize.ShloMosaic Idealize.ShloMosaic.TcCoe Idealize.ShloMosaic.Tactic
open Cert.KernelIdeal Cert.KernelIdeal.Gen
open Cert.Mine

/-- A sum over the rows of `A` chunks of `S` rows is the sum over `B` batches of `R` rows. -/
theorem sum_chunks (A S B R : ℕ) (hS : 0 < S) (hR : 0 < R) (h : A * S = B * R) (f : Fin B × Fin R → EReal) :
    (∑ q : Fin A, ∑ i : Fin S, f (⟨(q.val * S + i.val) / R, by
      have h1 := q.isLt; have h2 := i.isLt
      exact (Nat.div_lt_iff_lt_mul hR).mpr (h ▸ by nlinarith)⟩, ⟨(q.val * S + i.val) % R, Nat.mod_lt _ hR⟩)) = ∑ p, f p := by
  rw [← Fintype.sum_prod_type']
  refine Fintype.sum_equiv ((finProdFinEquiv (m := A) (n := S)).trans ((finCongr h).trans (finProdFinEquiv (m := B) (n := R)).symm)) _ _ fun p => congrArg f ?_
  refine Prod.ext (Fin.ext ?_) (Fin.ext ?_)
  · simp [finProdFinEquiv, Fin.divNat, mul_comm, add_comm]
  · simp [finProdFinEquiv, Fin.modNat, mul_comm, add_comm]

variable (m : (ℓ : Loc nD τ sig) → Buf (Elt Ideal) ℓ) (c : Dev nD)

/-! ## The recursions as sums over the chunks -/

theorem G2_sum (n : ℕ) (a b : Fin 128) :
    G2 m c n (ix2 a b) = ∑ q ∈ Finset.range n, ∑ i : Fin 1024, ck2 m c q (ix2 i a) * ck2 m c q (ix2 i b) := by
  induction n with
  | zero => exact pay1_at a b
  | succ n ih => rw [Finset.sum_range_succ, ← ih]; exact pay14_at (ck2 m c n) (G2 m c n) a b

theorem S2_sum (n : ℕ) (z : Fin 1) (b : Fin 128) :
    S2 m c n (ix2 z b) = ∑ q ∈ Finset.range n, ∑ i : Fin 1024, ck2 m c q (ix2 i b) := by
  induction n with
  | zero => exact pay2_at z b
  | succ n ih => rw [Finset.sum_range_succ, ← ih]; exact pay15_at (ck2 m c n) (S2 m c n) z b

theorem G1_sum (n : ℕ) (a b : Fin 64) :
    G1 m c n (ix2 a b) = ∑ q ∈ Finset.range n, ∑ i : Fin 4096, ck1 m c q (ix2 i a) * ck1 m c q (ix2 i b) := by
  induction n with
  | zero => exact pay3_at a b
  | succ n ih => rw [Finset.sum_range_succ, ← ih]; exact pay16_at (ck1 m c n) (G1 m c n) a b

theorem S1_sum (n : ℕ) (z : Fin 1) (b : Fin 64) :
    S1 m c n (ix2 z b) = ∑ q ∈ Finset.range n, ∑ i : Fin 4096, ck1 m c q (ix2 i b) := by
  induction n with
  | zero => exact pay4_at z b
  | succ n ih => rw [Finset.sum_range_succ, ← ih]; exact pay17_at (ck1 m c n) (S1 m c n) z b

/-! ## The coarse side -/

section Coarse

variable (xr : Fin 4 × Fin 2048 → Fin 128 → ℝ)
  (hx : ∀ b i a, (m ((c : Thread nD τ).loc main_arg3) : FVec Ideal S4x2048x128 .f32) (ix3 b i a) = (xr (b, i) a : EReal))

include hx

theorem G2_all (a b : Fin 128) : G2 m c 8 (ix2 a b) = ∑ p, (xr p a : EReal) * (xr p b : EReal) := by
  rw [G2_sum, Finset.sum_range, ← sum_chunks 8 1024 4 2048 (by norm_num) (by norm_num) (by norm_num) fun p => (xr p a : EReal) * (xr p b : EReal)]
  refine Finset.sum_congr rfl fun q _ => Finset.sum_congr rfl fun i _ => ?_
  rw [ck2_at m c q.val q.isLt, ck2_at m c q.val q.isLt, hx, hx]

theorem S2_all (z : Fin 1) (b : Fin 128) : S2 m c 8 (ix2 z b) = ∑ p, (xr p b : EReal) := by
  rw [S2_sum, Finset.sum_range, ← sum_chunks 8 1024 4 2048 (by norm_num) (by norm_num) (by norm_num) fun p => (xr p b : EReal)]
  refine Finset.sum_congr rfl fun q _ => Finset.sum_congr rfl fun i _ => ?_
  rw [ck2_at m c q.val q.isLt, hx]

/-- The stored coarse features. -/
theorem X2s_at (b : Fin 4) (i : Fin 2048) (a : Fin 128) (r : Fin 8192) (hr : r.val = 2048 * b.val + i.val) :
    X2s m c (ix2 r a) = (xr (b, i) a : EReal) := by
  have e : X2s m c (ix2 r a) = ck2 m c (r.val / 1024) (ix2 ⟨r.val % 1024, Nat.mod_lt _ (by decide)⟩ a) := by
    refine Eq.trans ?_ (pay5_at (ck2 m c (r.val / 1024)) ⟨r.val % 1024, Nat.mod_lt _ (by decide)⟩ a)
    exact congrArg (k0_pay5 (F := Ideal) (k0_pay12 (F := Ideal) (ck2 m c (r.val / 1024)))) (ix2_eq_valueIdx _ _).symm
  rw [e, ck2_at m c (r.val / 1024) (by omega), ← hx]
  congr 2 <;> apply Fin.ext <;> simp <;> omega

variable (wr : Fin 64 → Fin 128 → ℝ) (gr : Fin 64 → ℝ)
  (hw : ∀ o a, (m ((c : Thread nD τ).loc main_arg4) : FVec Ideal S64x128 .f32) (ix2 o a) = (wr o a : EReal))
  (hg : ∀ o, (m ((c : Thread nD τ).loc main_arg6) : FVec Ideal S64 .f32) (ix1 o) = (gr o : EReal))

include hw

theorem coarse_mean (z : Fin 1) (o : Fin 64) :
    k0_pay18 (F := Ideal) (S2 m c 8) (pW2 m c) (ix2 z o) = (mean xr (wr o) 8192 : EReal) := by
  rw [pay18_at, ofBits_inv_8192, ← proj_eq]
  refine Finset.sum_congr rfl fun a _ => ?_
  unfold pW2
  rw [S2_all m c xr hx, coarse_weights_at, hw]

include hg

theorem coarse_scale (z : Fin 1) (o : Fin 64) :
    k0_pay19 (F := Ideal) (G2 m c 8) (S2 m c 8) (pW2 m c) (pg2 m c) (ix2 z o) = ((gr o / root xr (wr o) 8192 : ℝ) : EReal) := by
  rw [pay19_at, coarse_mean m c xr hx wr hw, ofBits_inv_8192, ofBits_small,
    ← scale_eq xr (wr o) 8192 (by simp) (by norm_num)]
  unfold pW2 pg2
  rw [coarse_gain_at, hg]
  simp only [coarse_weights_at, hw, G2_all m c xr hx]

/-- The kernel's transformed coarse features are the normalised values. -/
theorem H2_at (br : Fin 64 → ℝ) (b : Fin 4) (i : Fin 2048) (o : Fin 64) (r : Fin 8192) (hr : r.val = 2048 * b.val + i.val) :
    H2 m c (ix2 r o) = normed xr (wr o) (br o) 8192 (gr o) ((m ((c : Thread nD τ).loc main_arg7) : FVec Ideal S64 .f32) (ix1 o)) (b, i) := by
  unfold H2
  rw [pay10_at, pay20_at, coarse_scale m c xr hx wr gr hw hg, coarse_mean m c xr hx wr hw, ← normed_of_scale]
  unfold pW2 pbe2
  rw [coarse_offset_at]
  simp only [coarse_weights_at, hw, X2s_at m c xr hx b i _ r hr]

end Coarse

/-! ## The fine side -/

section Fine

variable (xr : Fin 4 × Fin 8192 → Fin 64 → ℝ)
  (hx : ∀ b i a, (m ((c : Thread nD τ).loc main_arg1) : FVec Ideal S4x8192x64 .f32) (ix3 b i a) = (xr (b, i) a : EReal))

include hx

theorem G1_all (a b : Fin 64) : G1 m c 8 (ix2 a b) = ∑ p, (xr p a : EReal) * (xr p b : EReal) := by
  rw [G1_sum, Finset.sum_range, ← sum_chunks 8 4096 4 8192 (by norm_num) (by norm_num) (by norm_num) fun p => (xr p a : EReal) * (xr p b : EReal)]
  refine Finset.sum_congr rfl fun q _ => Finset.sum_congr rfl fun i _ => ?_
  rw [ck1_at m c q.val q.isLt, ck1_at m c q.val q.isLt, hx, hx]

theorem S1_all (z : Fin 1) (b : Fin 64) : S1 m c 8 (ix2 z b) = ∑ p, (xr p b : EReal) := by
  rw [S1_sum, Finset.sum_range, ← sum_chunks 8 4096 4 8192 (by norm_num) (by norm_num) (by norm_num) fun p => (xr p b : EReal)]
  refine Finset.sum_congr rfl fun q _ => Finset.sum_congr rfl fun i _ => ?_
  rw [ck1_at m c q.val q.isLt, hx]

variable (wr : Fin 64 → Fin 64 → ℝ) (gr : Fin 64 → ℝ)
  (hw : ∀ o a, (m ((c : Thread nD τ).loc main_arg8) : FVec Ideal S64x64 .f32) (ix2 o a) = (wr o a : EReal))
  (hg : ∀ o, (m ((c : Thread nD τ).loc main_arg10) : FVec Ideal S64 .f32) (ix1 o) = (gr o : EReal))

include hw

theorem fine_mean (z : Fin 1) (o : Fin 64) :
    k0_pay6 (F := Ideal) (S1 m c 8) (pW1 m c) k0_pay23 (ix2 z o) = (mean xr (wr o) 32768 : EReal) := by
  rw [pay6_at, ofBits_inv_32768, ← proj_eq]
  refine Finset.sum_congr rfl fun a _ => ?_
  unfold pW1
  rw [S1_all m c xr hx, fine_weights_at, hw]

include hg

/-- The fine scale. -/
theorem SC1_at (z : Fin 1) (o : Fin 64) : SC1 m c (ix2 z o) = ((gr o / root xr (wr o) 32768 : ℝ) : EReal) := by
  unfold SC1
  rw [pay8_at, fine_mean m c xr hx wr hw, ofBits_inv_32768, ofBits_small,
    ← scale_eq xr (wr o) 32768 (by simp) (by norm_num)]
  unfold pW1 pg1
  rw [fine_gain_at, hg]
  simp only [fine_weights_at, hw, G1_all m c xr hx]

/-- The fine shift. -/
theorem SH1_at (z : Fin 1) (o : Fin 64) (be : EReal) (hbe : (m ((c : Thread nD τ).loc main_arg11) : FVec Ideal S64 .f32) (ix1 o) = be) :
    SH1 m c (ix2 z o) = be - (mean xr (wr o) 32768 : EReal) * ((gr o / root xr (wr o) 32768 : ℝ) : EReal) := by
  have h := SC1_at m c xr hx wr gr hw hg z o
  unfold SC1 at h
  unfold SH1
  rw [pay9_at, fine_mean m c xr hx wr hw, h]
  unfold pbe1
  rw [fine_offset_at, hbe]

end Fine

end Cert.KernelIdeal.Mine

end
-- ==== Proof.Value.Query.lean ====
/- What a query point computes for one fine point: the weighted mean over its three nearest coarse points, plus its own
   transformed features. -/
module

public import proofs.«01_k».proof.Proof.Value.Payloads
public import proofs.«01_k».proof.Proof.Value.Near
public import proofs.«01_k».proof.Proof.Body.Data

@[expose] public section

set_option maxRecDepth 16384

noncomputable section

namespace Cert.KernelIdeal.Mine

open Idealize.ShloMosaic Idealize.ShloMosaic.TcCoe Idealize.ShloMosaic.Tactic
open Cert.KernelIdeal Cert.KernelIdeal.Gen
open Cert.Mine

variable (x3 : FVec Ideal S1x1024x3 .f32) (x5 : FVec Ideal S1x2048x3 .f32)

/-- A row of squared distances less the fine point's squared length. -/
def row (a : Fin 1024) (k : Fin 2048) : EReal := k0_pay26 (F := Ideal) x3 x5 (ix2 a k)

/-! ## The three rounds along a row -/

theorem first_least (a : Fin 1024) (z : Fin 1) : k0_pay29 (F := Ideal) x3 x5 (ix2 a z) = least (row x3 x5 a) := by
  rw [pay29_at, ofBits_inf]
  rfl

theorem first_row (a : Fin 1024) (k : Fin 2048) :
    k0_pay32 (F := Ideal) (k0_pay26 (F := Ideal) x3 x5) (k0_pay30 (F := Ideal) x3 x5) (ix2 a k) = dropLeast (row x3 x5 a) k := by
  rw [pay32_at, pay30_at, first_least, ofBits_inf]
  rfl

theorem second_least (a : Fin 1024) (z : Fin 1) :
    k0_pay34 (F := Ideal) (k0_pay26 (F := Ideal) x3 x5) (k0_pay30 (F := Ideal) x3 x5) (ix2 a z) = least (dropLeast (row x3 x5 a)) := by
  rw [pay34_at, ofBits_inf]
  simp only [first_row]
  rfl

theorem second_row (a : Fin 1024) (k : Fin 2048) :
    k0_pay36 (F := Ideal) (k0_pay26 (F := Ideal) x3 x5) (k0_pay30 (F := Ideal) x3 x5) (ix2 a k) = dropLeast (dropLeast (row x3 x5 a)) k := by
  rw [pay36_at, first_row, second_least, ofBits_inf]
  rfl

theorem third_least (a : Fin 1024) (z : Fin 1) :
    k0_pay40 (F := Ideal) (k0_pay26 (F := Ideal) x3 x5) (k0_pay30 (F := Ideal) x3 x5) (ix2 a z) = least (dropLeast (dropLeast (row x3 x5 a))) := by
  rw [pay40_at, ofBits_inf]
  simp only [second_row]
  rfl

/-! ## The output at one fine point -/

/-- A selection by a decided condition that is met at one place only. -/
theorem select_place {n : ℕ} (p : Fin n → Prop) [DecidablePred p] (s : Fin n) (h : ∀ k, p k ↔ k = s) (k : Fin n) (w : EReal) :
    Scalar.select (BitVec.ofBool (decide (p k))) w 0 = if k = s then w else 0 := by
  rw [select_ofBool]
  by_cases hk : k = s
  · rw [if_pos hk, if_pos ((h k).mpr hk)]
  · rw [if_neg hk, if_neg fun e => hk ((h k).mp e)]

variable (A : FVec Ideal S2048x64 .f32) (x4 : FVec Ideal S1x1024x64 .f32) (x7 : FVec Ideal S64x64 .f32) (x19 x20 : FVec Ideal S1x64 .f32)

/-- The output at one fine point whose row of distances has its three smallest at three places. -/
theorem outOf_at (z : Fin 1) (a : Fin 1024) (o : Fin 64) (e : Fin 2048 → ℝ) (n1 : ℝ) (σ : Fin 3 → Fin 2048) (hσ : Nearest e σ)
    (he : ∀ k, row x3 x5 a k = (e k : EReal)) (hn : k0_pay25 (F := Ideal) x3 (ix2 a 0) = (n1 : EReal)) (hA : ∀ k, 0 ≤ A (ix2 k o)) :
    outOf (F := Ideal) A x3 x4 x5 x7 x19 x20 (ix3 z a o) =
      (∑ i : Fin 3, A (ix2 (σ i) o) * Ideal.div (weight (e (σ i) + n1) : EReal) (∑ j : Fin 3, (weight (e (σ j) + n1) : EReal))) +
        max ((∑ c, x4 (ix3 0 a c) * x7 (ix2 o c)) * x19 (ix2 0 o) + x20 (ix2 0 o)) 0 := by
  obtain ⟨⟨l0, p0⟩, ⟨l1, p1⟩, ⟨l2, p2⟩⟩ := hσ.rounds (row x3 x5 a) he
  unfold outOf
  rw [pay11_at, pay38_at, pay42_at, pay43_at, first_least, second_least, third_least, hn, l0, l1, l2]
  simp only [← EReal.coe_add]
  rw [weight_eq, weight_eq, weight_eq]
  rw [← weighted_mean (fun i => weight (e (σ i) + n1)) (fun i => weight_pos _) σ (fun k => A (ix2 k o)) hA]
  congr 2
  refine Finset.sum_congr rfl fun k _ => ?_
  rw [pay39_at, pay31_at, pay35_at, pay41_at, pay30_at, first_least, second_least, third_least, hn, first_row, second_row]
  rw [select_place (fun k => k0_pay26 (F := Ideal) x3 x5 (ix2 a k) = least (row x3 x5 a)) (σ 0) p0,
    select_place (fun k => dropLeast (row x3 x5 a) k = least (dropLeast (row x3 x5 a))) (σ 1) p1,
    select_place (fun k => dropLeast (dropLeast (row x3 x5 a)) k = least (dropLeast (dropLeast (row x3 x5 a)))) (σ 2) p2]
  rw [l0, l1]
  simp only [← EReal.coe_add]
  rw [weight_eq, weight_eq]

end Cert.KernelIdeal.Mine

end
-- ==== Proof.Value.RefCoarse.lean ====
/- What the reference's coarse branch holds at one index, at ideal values: a linear map's values, normalised by their own mean
   and spread, scaled, moved and cut at zero. -/
module

public import proofs.«01_k».proof.Proof.Gen.ReferenceIdeal
public import proofs.«01_k».proof.Proof.Gen.ReferenceIdeal.Read
public import proofs.«01_k».proof.Proof.Value.Norm
public import Idealize.ShloMosaic.Lib.Pointwise

@[expose] public section

set_option maxRecDepth 16384

noncomputable section

namespace Cert.Mine

open Idealize.ShloMosaic Idealize.ShloMosaic.TcCoe Idealize.ShloMosaic.Tactic
open Cert.ReferenceIdeal Cert.ReferenceIdeal.Gen Cert.ReferenceIdeal.Read

/-- A sum over the first two of three axes. -/
theorem reduceAdd_front {p q r : ℕ} (h : (⟨3, ![p, q, r]⟩ : Shape).ReducesTo [0, 1] ⟨1, ![r]⟩)
    (v : (⟨3, ![p, q, r]⟩ : Shape).Idx → EReal) (init : EReal) (j : Fin r) :
    Ideal.hostReduceAdd h v init (ix1 j) = init + ∑ k : Fin p × Fin q, v (ix3 k.1 k.2 j) := by
  refine congrArg (init + ·) ?_
  refine Finset.sum_filter_eq_sum_of_fiber _ (fun k : Fin p × Fin q => ix3 k.1 k.2 j)
    (fun _ _ e => Prod.ext (congrFun e 0) (congrFun e 1)) (fun i => ?_) v
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

variable (x3 : FVec Ideal S4x2048x128 .f32) (x4 : FVec Ideal S64x128 .f32) (x5 x6 x7 : FVec Ideal S64 .f32)

/-- The coarse linear map's value and its bias. -/
theorem v3_at (b : Fin 4) (i : Fin 2048) (o : Fin 64) :
    val_main_v3 (F := Ideal) x3 x4 x5 (ix3 b i o) = ∑ c, x3 (ix3 b i c) * x4 (ix2 o c) + x5 (ix1 o) := by
  pointwise [val_main_v3, val_main_v2, val_main_v1, val_main_v0]

/-- The coarse sum of the values. -/
theorem v4_at (o : Fin 64) :
    val_main_v4 (F := Ideal) x3 x4 x5 (ix1 o) = ∑ k : Fin 4 × Fin 2048, val_main_v3 (F := Ideal) x3 x4 x5 (ix3 k.1 k.2 o) := by
  pointwise [val_main_v4, val_main_cst]
  rw [reduceAdd_front, zero_add]

/-- The coarse mean. -/
theorem v7_at (z y : Fin 1) (o : Fin 64) :
    val_main_v7 (F := Ideal) x3 x4 x5 (ix3 z y o) =
      Ideal.div (∑ k : Fin 4 × Fin 2048, val_main_v3 (F := Ideal) x3 x4 x5 (ix3 k.1 k.2 o)) (Ideal.ofBits .f32 0x46000000#32) := by
  pointwise [val_main_v7, val_main_v5, val_main_v6, val_main_cst_0]
  rw [v4_at]

/-- The coarse mean again, inside the variance. -/
theorem call0_v3_at (z y : Fin 1) (o : Fin 64) :
    val_main_call0_v3 (F := Ideal) x3 x4 x5 (ix3 z y o) =
      Ideal.div (∑ k : Fin 4 × Fin 2048, val_main_v3 (F := Ideal) x3 x4 x5 (ix3 k.1 k.2 o)) (Ideal.ofBits .f32 0x46000000#32) := by
  pointwise [val_main_call0_v3, val_main_call0_v1, val_main_call0_v2, val_main_call0_cst_0, val_main_call0_v0, val_main_call0_cst]
  rw [reduceAdd_front, zero_add]

/-- The coarse distance from the mean. -/
theorem call0_v5_at (b : Fin 4) (i : Fin 2048) (o : Fin 64) :
    val_main_call0_v5 (F := Ideal) x3 x4 x5 (ix3 b i o) =
      val_main_v3 (F := Ideal) x3 x4 x5 (ix3 b i o) - val_main_call0_v3 (F := Ideal) x3 x4 x5 (ix3 0 0 o) := by
  pointwise [val_main_call0_v5, val_main_call0_v4]

/-- The coarse sum of the squared distances from the mean. -/
theorem call0_v9_at (o : Fin 64) :
    val_main_call0_v9 (F := Ideal) x3 x4 x5 (ix1 o) =
      ∑ k : Fin 4 × Fin 2048, val_main_call0_v5 (F := Ideal) x3 x4 x5 (ix3 k.1 k.2 o) * val_main_call0_v5 (F := Ideal) x3 x4 x5 (ix3 k.1 k.2 o) := by
  pointwise [val_main_call0_v9, val_main_call0_cst_2]
  rw [reduceAdd_front, zero_add]
  exact Finset.sum_congr rfl fun k _ => by pointwise [val_main_call0_v6]

/-- The coarse number of rows the variance divides by. -/
theorem call0_v8_at : val_main_call0_v8 (F := Ideal) ix0 = ((8192 : ℝ) : EReal) := by
  pointwise [val_main_call0_v8, val_main_call0_cst_1, val_main_call0_v7, val_main_c]
  rw [ofBits_8192]
  have h : (FloatOps.sitofp .f32 0#32 : Ideal .f32) = ((0 : ℝ) : EReal) := by
    show (((0#32 : BitVec 32).toInt : ℝ) : EReal) = ((0 : ℝ) : EReal)
    norm_num
  rw [h, ← EReal.coe_sub, sub_zero]

/-- That number is positive. -/
theorem call0_v13_at : val_main_call0_v13 (F := Ideal) ix0 = 1#1 := by
  pointwise [val_main_call0_v13, val_main_call0_cst_3]
  rw [call0_v8_at]
  have h : (0 : EReal) < ((8192 : ℝ) : EReal) := by exact_mod_cast (by norm_num : (0 : ℝ) < 8192)
  simp [h]

/-- The coarse variance. -/
theorem v8_at (z y : Fin 1) (o : Fin 64) :
    val_main_v8 (F := Ideal) x3 x4 x5 (ix3 z y o) =
      Ideal.div (∑ k : Fin 4 × Fin 2048, val_main_call0_v5 (F := Ideal) x3 x4 x5 (ix3 k.1 k.2 o) * val_main_call0_v5 (F := Ideal) x3 x4 x5 (ix3 k.1 k.2 o))
        ((8192 : ℝ) : EReal) := by
  pointwise [val_main_v8]
  rw [call0_v13_at]
  pointwise [val_main_call0_v12, val_main_call0_v10, val_main_call0_v11]
  rw [call0_v9_at, call0_v8_at]

/-- The coarse branch's value, from its linear map's values, mean and variance. -/
theorem v23_at (b : Fin 4) (i : Fin 2048) (o : Fin 64) :
    val_main_v23 (F := Ideal) x3 x4 x5 x6 x7 (ix3 b i o) =
      max (Ideal.div (val_main_v3 (F := Ideal) x3 x4 x5 (ix3 b i o) - val_main_v7 (F := Ideal) x3 x4 x5 (ix3 0 0 o))
        (Ideal.sqrt (val_main_v8 (F := Ideal) x3 x4 x5 (ix3 0 0 o) + Ideal.ofBits .f32 0x3727C5AC#32)) * x6 (ix1 o) + x7 (ix1 o)) 0 := by
  pointwise [val_main_v23, val_main_v22, val_main_cst_2, val_main_v21, val_main_v20, val_main_v19, val_main_v18, val_main_v17, val_main_v16,
    val_main_v15, val_main_v14, val_main_v13, val_main_v12, val_main_v11, val_main_cst_1, val_main_v10, val_main_v9]

/-- The coarse branch's value over real inputs. -/
theorem v23_normed (xr : Fin 4 × Fin 2048 → Fin 128 → ℝ) (wr : Fin 64 → Fin 128 → ℝ) (br gr : Fin 64 → ℝ)
    (h3 : ∀ b i c, x3 (ix3 b i c) = (xr (b, i) c : EReal)) (h4 : ∀ o c, x4 (ix2 o c) = (wr o c : EReal))
    (h5 : ∀ o, x5 (ix1 o) = (br o : EReal)) (h6 : ∀ o, x6 (ix1 o) = (gr o : EReal)) (b : Fin 4) (i : Fin 2048) (o : Fin 64) :
    val_main_v23 (F := Ideal) x3 x4 x5 x6 x7 (ix3 b i o) = normed xr (wr o) (br o) 8192 (gr o) (x7 (ix1 o)) (b, i) := by
  have hM : (Fintype.card (Fin 4 × Fin 2048) : ℝ) = 8192 := by
    rw [Fintype.card_prod, Fintype.card_fin, Fintype.card_fin]; norm_num
  have e3 : ∀ k : Fin 4 × Fin 2048, val_main_v3 (F := Ideal) x3 x4 x5 (ix3 k.1 k.2 o) =
      ∑ c, (xr k c : EReal) * (wr o c : EReal) + (br o : EReal) := fun k => by
    rw [v3_at, h5]
    exact congrArg (· + _) (Finset.sum_congr rfl fun c _ => by rw [h3, h4])
  have em : Ideal.div (∑ k : Fin 4 × Fin 2048, val_main_v3 (F := Ideal) x3 x4 x5 (ix3 k.1 k.2 o)) (Ideal.ofBits .f32 0x46000000#32) =
      ((mean xr (wr o) 8192 + br o : ℝ) : EReal) := by
    rw [Finset.sum_congr rfl fun k _ => e3 k, ofBits_8192]
    exact ref_mean xr (wr o) (br o) 8192 hM (by norm_num)
  have ev : val_main_v8 (F := Ideal) x3 x4 x5 (ix3 0 0 o) = (spread xr (wr o) 8192 : EReal) := by
    rw [v8_at, Finset.sum_congr rfl fun k _ => by rw [call0_v5_at, call0_v3_at, em, e3]]
    exact ref_spread xr (wr o) (br o) 8192 (by norm_num)
  rw [v23_at, ev, v7_at, em, h6, ofBits_small, e3 (b, i)]
  exact ref_normed xr (wr o) (br o) 8192 (by norm_num) (gr o) _ (b, i)

end Cert.Mine
-- ==== Proof.Value.RefFine.lean ====
/- What the reference's fine branch holds at one index, at ideal values: a linear map's values, normalised by their own mean
   and spread, scaled, moved and cut at zero. -/
module

public import proofs.«01_k».proof.Proof.Gen.ReferenceIdeal
public import proofs.«01_k».proof.Proof.Gen.ReferenceIdeal.Read
public import proofs.«01_k».proof.Proof.Value.Norm
public import proofs.«01_k».proof.Proof.Value.RefCoarse
public import Idealize.ShloMosaic.Lib.Pointwise

@[expose] public section

set_option maxRecDepth 16384

noncomputable section

namespace Cert.Mine

open Idealize.ShloMosaic Idealize.ShloMosaic.TcCoe Idealize.ShloMosaic.Tactic
open Cert.ReferenceIdeal Cert.ReferenceIdeal.Gen Cert.ReferenceIdeal.Read

variable (x1 : FVec Ideal S4x8192x64 .f32) (x8 : FVec Ideal S64x64 .f32) (x9 x10 x11 : FVec Ideal S64 .f32)

/-- The fine linear map's value and its bias. -/
theorem v63_at (b : Fin 4) (i : Fin 8192) (o : Fin 64) :
    val_main_v63 (F := Ideal) x1 x8 x9 (ix3 b i o) = ∑ c, x1 (ix3 b i c) * x8 (ix2 o c) + x9 (ix1 o) := by
  pointwise [val_main_v63, val_main_v62, val_main_v61, val_main_v60]

/-- The fine sum of the values. -/
theorem v64_at (o : Fin 64) :
    val_main_v64 (F := Ideal) x1 x8 x9 (ix1 o) = ∑ k : Fin 4 × Fin 8192, val_main_v63 (F := Ideal) x1 x8 x9 (ix3 k.1 k.2 o) := by
  pointwise [val_main_v64, val_main_cst_13]
  rw [reduceAdd_front, zero_add]

/-- The fine mean. -/
theorem v67_at (z y : Fin 1) (o : Fin 64) :
    val_main_v67 (F := Ideal) x1 x8 x9 (ix3 z y o) =
      Ideal.div (∑ k : Fin 4 × Fin 8192, val_main_v63 (F := Ideal) x1 x8 x9 (ix3 k.1 k.2 o)) (Ideal.ofBits .f32 0x47000000#32) := by
  pointwise [val_main_v67, val_main_v65, val_main_v66, val_main_cst_14]
  rw [v64_at]

/-- The fine mean again, inside the variance. -/
theorem call1_v3_at (z y : Fin 1) (o : Fin 64) :
    val_main_call1_v3 (F := Ideal) x1 x8 x9 (ix3 z y o) =
      Ideal.div (∑ k : Fin 4 × Fin 8192, val_main_v63 (F := Ideal) x1 x8 x9 (ix3 k.1 k.2 o)) (Ideal.ofBits .f32 0x47000000#32) := by
  pointwise [val_main_call1_v3, val_main_call1_v1, val_main_call1_v2, val_main_call1_cst_0, val_main_call1_v0, val_main_call1_cst]
  rw [reduceAdd_front, zero_add]

/-- The fine distance from the mean. -/
theorem call1_v5_at (b : Fin 4) (i : Fin 8192) (o : Fin 64) :
    val_main_call1_v5 (F := Ideal) x1 x8 x9 (ix3 b i o) =
      val_main_v63 (F := Ideal) x1 x8 x9 (ix3 b i o) - val_main_call1_v3 (F := Ideal) x1 x8 x9 (ix3 0 0 o) := by
  pointwise [val_main_call1_v5, val_main_call1_v4]

/-- The fine sum of the squared distances from the mean. -/
theorem call1_v9_at (o : Fin 64) :
    val_main_call1_v9 (F := Ideal) x1 x8 x9 (ix1 o) =
      ∑ k : Fin 4 × Fin 8192, val_main_call1_v5 (F := Ideal) x1 x8 x9 (ix3 k.1 k.2 o) * val_main_call1_v5 (F := Ideal) x1 x8 x9 (ix3 k.1 k.2 o) := by
  pointwise [val_main_call1_v9, val_main_call1_cst_2]
  rw [reduceAdd_front, zero_add]
  exact Finset.sum_congr rfl fun k _ => by pointwise [val_main_call1_v6]

/-- The fine number of rows the variance divides by. -/
theorem call1_v8_at : val_main_call1_v8 (F := Ideal) ix0 = ((32768 : ℝ) : EReal) := by
  pointwise [val_main_call1_v8, val_main_call1_cst_1, val_main_call1_v7, val_main_c_15]
  rw [ofBits_32768]
  have h : (FloatOps.sitofp .f32 0#32 : Ideal .f32) = ((0 : ℝ) : EReal) := by
    show (((0#32 : BitVec 32).toInt : ℝ) : EReal) = ((0 : ℝ) : EReal)
    norm_num
  rw [h, ← EReal.coe_sub, sub_zero]

/-- That number is positive. -/
theorem call1_v13_at : val_main_call1_v13 (F := Ideal) ix0 = 1#1 := by
  pointwise [val_main_call1_v13, val_main_call1_cst_3]
  rw [call1_v8_at]
  have h : (0 : EReal) < ((32768 : ℝ) : EReal) := by exact_mod_cast (by norm_num : (0 : ℝ) < 32768)
  simp [h]

/-- The fine variance. -/
theorem v68_at (z y : Fin 1) (o : Fin 64) :
    val_main_v68 (F := Ideal) x1 x8 x9 (ix3 z y o) =
      Ideal.div (∑ k : Fin 4 × Fin 8192, val_main_call1_v5 (F := Ideal) x1 x8 x9 (ix3 k.1 k.2 o) * val_main_call1_v5 (F := Ideal) x1 x8 x9 (ix3 k.1 k.2 o))
        ((32768 : ℝ) : EReal) := by
  pointwise [val_main_v68]
  rw [call1_v13_at]
  pointwise [val_main_call1_v12, val_main_call1_v10, val_main_call1_v11]
  rw [call1_v9_at, call1_v8_at]

/-- The fine branch's value, from its linear map's values, mean and variance. -/
theorem v83_at (b : Fin 4) (i : Fin 8192) (o : Fin 64) :
    val_main_v83 (F := Ideal) x1 x8 x9 x10 x11 (ix3 b i o) =
      max (Ideal.div (val_main_v63 (F := Ideal) x1 x8 x9 (ix3 b i o) - val_main_v67 (F := Ideal) x1 x8 x9 (ix3 0 0 o))
        (Ideal.sqrt (val_main_v68 (F := Ideal) x1 x8 x9 (ix3 0 0 o) + Ideal.ofBits .f32 0x3727C5AC#32)) * x10 (ix1 o) + x11 (ix1 o)) 0 := by
  pointwise [val_main_v83, val_main_v82, val_main_cst_17, val_main_v81, val_main_v80, val_main_v79, val_main_v78, val_main_v77, val_main_v76,
    val_main_v75, val_main_v74, val_main_v73, val_main_v72, val_main_v71, val_main_cst_16, val_main_v70, val_main_v69]

/-- The fine branch's value over real inputs. -/
theorem v83_normed (xr : Fin 4 × Fin 8192 → Fin 64 → ℝ) (wr : Fin 64 → Fin 64 → ℝ) (br gr : Fin 64 → ℝ)
    (h3 : ∀ b i c, x1 (ix3 b i c) = (xr (b, i) c : EReal)) (h4 : ∀ o c, x8 (ix2 o c) = (wr o c : EReal))
    (h5 : ∀ o, x9 (ix1 o) = (br o : EReal)) (h6 : ∀ o, x10 (ix1 o) = (gr o : EReal)) (b : Fin 4) (i : Fin 8192) (o : Fin 64) :
    val_main_v83 (F := Ideal) x1 x8 x9 x10 x11 (ix3 b i o) = normed xr (wr o) (br o) 32768 (gr o) (x11 (ix1 o)) (b, i) := by
  have hM : (Fintype.card (Fin 4 × Fin 8192) : ℝ) = 32768 := by
    rw [Fintype.card_prod, Fintype.card_fin, Fintype.card_fin]; norm_num
  have e3 : ∀ k : Fin 4 × Fin 8192, val_main_v63 (F := Ideal) x1 x8 x9 (ix3 k.1 k.2 o) =
      ∑ c, (xr k c : EReal) * (wr o c : EReal) + (br o : EReal) := fun k => by
    rw [v63_at, h5]
    exact congrArg (· + _) (Finset.sum_congr rfl fun c _ => by rw [h3, h4])
  have em : Ideal.div (∑ k : Fin 4 × Fin 8192, val_main_v63 (F := Ideal) x1 x8 x9 (ix3 k.1 k.2 o)) (Ideal.ofBits .f32 0x47000000#32) =
      ((mean xr (wr o) 32768 + br o : ℝ) : EReal) := by
    rw [Finset.sum_congr rfl fun k _ => e3 k, ofBits_32768]
    exact ref_mean xr (wr o) (br o) 32768 hM (by norm_num)
  have ev : val_main_v68 (F := Ideal) x1 x8 x9 (ix3 0 0 o) = (spread xr (wr o) 32768 : EReal) := by
    rw [v68_at, Finset.sum_congr rfl fun k _ => by rw [call1_v5_at, call1_v3_at, em, e3]]
    exact ref_spread xr (wr o) (br o) 32768 (by norm_num)
  rw [v83_at, ev, v67_at, em, h6, ofBits_small, e3 (b, i)]
  exact ref_normed xr (wr o) (br o) 32768 (by norm_num) (gr o) _ (b, i)

end Cert.Mine
-- ==== Proof.Value.TopK.lean ====
/- The nearest of a row in sorted order: what the sorted prefix holds, that it is in order, and that a strict prefix of four
   makes its first three the three nearest. -/
module

public import proofs.«01_k».proof.Proof.Value.Near
public import Idealize.ShloMosaic.Lib.SortFacts
public import Idealize.ShloMosaic.Lib.Pointwise

@[expose] public section

set_option maxRecDepth 16384

noncomputable section

namespace Cert.Mine

open Idealize.ShloMosaic Idealize.ShloMosaic.TcCoe Idealize.ShloMosaic.Tactic

/-- Whether the first place of a row comes before the second when the greatest comes first. -/
def before {n : ℕ} (E : Fin n → EReal) (k k' : Fin n) : Bool :=
  (FloatOps.cmpfTotal (F := Ideal) (φ := .f32) .gt (E k) (E k')) == 1#1

/-- The place of a row that the sort puts at a position. -/
def rank {n : ℕ} (E : Fin n → EReal) : Fin n → Fin n := sortedFrom (before E)

/-- One place comes before another when it holds the greater. -/
theorem before_iff {n : ℕ} (E : Fin n → EReal) (k k' : Fin n) : before E k k' = true ↔ E k' < E k := by
  unfold before
  rw [Ideal.cmpfTotal_def]
  show (BitVec.ofBool (decide (E k > E k')) == 1#1) = true ↔ E k' < E k
  by_cases h : E k' < E k <;> simp [h]

/-- The sorted row does not increase. -/
theorem rank_le {n : ℕ} (E : Fin n → EReal) (i j : Fin n) (h : i ≤ j) : E (rank E j) ≤ E (rank E i) := by
  rcases h.eq_or_lt with rfl | h
  · exact le_rfl
  have hf : ∀ a b, before E a b = false ↔ E a ≤ E b := fun a b => by
    rw [← Bool.not_eq_true, before_iff, not_lt]
  have := sortedFrom_noInversion (before E) (before E)
    (fun a b hab => (hf b a).mpr ((before_iff E a b).mp hab).le) (fun a b hab => hab)
    (fun a b c hab hbc => (hf a c).mpr (((hf a b).mp hab).trans ((hf b c).mp hbc))) i j h
  exact (hf _ _).mp this

/-- A strict prefix of four of the sorted negated distances: its first three places are the three nearest. -/
theorem nearest_rank {n : ℕ} (h4 : 4 ≤ n) (d : Fin n → ℝ) (E : Fin n → EReal) (hE : ∀ k, E k = ((-d k : ℝ) : EReal))
    (hs : ∀ i : Fin 3, E (rank E ⟨i.val + 1, by omega⟩) < E (rank E ⟨i.val, by omega⟩)) :
    Nearest d fun i : Fin 3 => rank E ⟨i.val, by omega⟩ := by
  have hlt : ∀ a b, E a < E b → d b < d a := fun a b h => by
    rw [hE, hE, EReal.coe_lt_coe_iff] at h; linarith
  refine ⟨hlt _ _ (hs 0), hlt _ _ (hs 1), fun k k0 k1 k2 => ?_⟩
  obtain ⟨j, rfl⟩ := sortedFrom_surjective (before E) k
  have h3 : 3 ≤ j.val := by
    by_contra hc
    have hc' : j.val = 0 ∨ j.val = 1 ∨ j.val = 2 := by omega
    rcases hc' with q | q | q
    · exact k0 (congrArg (rank E) (Fin.ext q))
    · exact k1 (congrArg (rank E) (Fin.ext q))
    · exact k2 (congrArg (rank E) (Fin.ext q))
  exact hlt _ _ ((rank_le E ⟨3, by omega⟩ j h3).trans_lt (hs 2))

/-- Moving every distance of a row by the same amount leaves the nearest. -/
theorem Nearest.moved {n : ℕ} {d e : Fin n → ℝ} {σ : Fin 3 → Fin n} (h : Nearest d σ) (a : ℝ) (he : ∀ k, e k + a = d k) :
    Nearest e σ := by
  have hlt : ∀ x y, d x < d y → e x < e y := fun x y q => by rw [← he, ← he] at q; linarith
  exact ⟨hlt _ _ h.lt01, hlt _ _ h.lt12, fun k k0 k1 k2 => hlt _ _ (h.lt k k0 k1 k2)⟩

/-! ## The sorted prefix -/

/-- The last axis is one of the three. -/
theorem last_lt : 2 < (⟨3, ![4, 8192, 2048]⟩ : Shape).rank := by decide

/-- A row's index with its last coordinate replaced. -/
theorem along_last (b : Fin 4) (r : Fin 8192) (q q' : Fin 2048) :
    Shape.Idx.along (s := ⟨3, ![4, 8192, 2048]⟩) (ix3 b r q) ⟨2, last_lt⟩
      q' = ix3 b r q' := by
  funext a
  match a with
  | ⟨0, _⟩ => rfl
  | ⟨1, _⟩ => rfl
  | ⟨2, _⟩ => rfl

/-- The order the sort uses along a row. -/
theorem order_along (x : (⟨3, ![4, 8192, 2048]⟩ : Shape).Idx → EReal) (b : Fin 4) (r : Fin 8192) (q : Fin 2048) :
    (fun k k' : Fin 2048 => FloatOps.cmpfTotal (F := Ideal) (φ := .f32) .gt
      (x (Shape.Idx.along (s := ⟨3, ![4, 8192, 2048]⟩) (ix3 b r q) ⟨2, last_lt⟩
        k))
      (x (Shape.Idx.along (s := ⟨3, ![4, 8192, 2048]⟩) (ix3 b r q) ⟨2, last_lt⟩
        k')) == 1#1) = before fun k => x (ix3 b r k) := by
  funext k k'
  rw [along_last, along_last]
  rfl

/-- A row after the sort. -/
theorem sort2_at (x : (⟨3, ![4, 8192, 2048]⟩ : Shape).Idx → EReal) {β : Type} (y : (⟨3, ![4, 8192, 2048]⟩ : Shape).Idx → β)
    (b : Fin 4) (r : Fin 8192) (q : Fin 2048) :
    (Host.sort2 ⟨3, ![4, 8192, 2048]⟩ 2 (fun l r => FloatOps.cmpfTotal (F := Ideal) (φ := .f32) .gt l.1 r.1) x y).1 (ix3 b r q) =
      x (ix3 b r (rank (fun k => x (ix3 b r k)) q)) ∧
    (Host.sort2 ⟨3, ![4, 8192, 2048]⟩ 2 (fun l r => FloatOps.cmpfTotal (F := Ideal) (φ := .f32) .gt l.1 r.1) x y).2 (ix3 b r q) =
      y (ix3 b r (rank (fun k => x (ix3 b r k)) q)) := by
  unfold Host.sort2
  rw [dif_pos last_lt]
  have e : sortedFrom (fun k k' : Fin 2048 => FloatOps.cmpfTotal (F := Ideal) (φ := .f32) .gt
      (x (Shape.Idx.along (s := ⟨3, ![4, 8192, 2048]⟩) (ix3 b r q) ⟨2, last_lt⟩
        k))
      (x (Shape.Idx.along (s := ⟨3, ![4, 8192, 2048]⟩) (ix3 b r q) ⟨2, last_lt⟩
        k')) == 1#1) q = rank (fun k => x (ix3 b r k)) q :=
    congrFun (congrArg sortedFrom (order_along x b r q)) q
  have e' := (congrArg (fun k : Fin 2048 => Shape.Idx.along (s := ⟨3, ![4, 8192, 2048]⟩) (ix3 b r q) ⟨2, last_lt⟩
    k) e).trans (along_last b r q _)
  exact ⟨congrArg x e', congrArg y e'⟩

variable {K : ℕ} (x : (⟨3, ![4, 8192, 2048]⟩ : Shape).Idx → EReal)
  (h : (⟨3, ![4, 8192, 2048]⟩ : Shape).Slices (fun _ => 0) ⟨3, ![4, 8192, K]⟩) (hK : K ≤ 2048)

include hK in
/-- The prefix read at an index. -/
theorem prefix_at {α : Type} (v : (⟨3, ![4, 8192, 2048]⟩ : Shape).Idx → α) (b : Fin 4) (r : Fin 8192) (k : Fin K) :
    extractStridedSlice ⟨3, ![4, 8192, K]⟩ (fun _ => 0) v h (ix3 b r k) = v (ix3 b r ⟨k.val, by omega⟩) := by
  refine congrArg v ?_
  funext a
  apply Fin.ext
  match a with
  | ⟨0, _⟩ => exact zero_add _
  | ⟨1, _⟩ => exact zero_add _
  | ⟨2, _⟩ => exact zero_add _

/-- Every index's last coordinate, as a word. -/
def lastCoord : IVec ⟨3, ![4, 8192, 2048]⟩ 32 := fun i =>
  if hd : 2 < (⟨3, ![4, 8192, 2048]⟩ : Shape).rank then iotaInDim ⟨3, ![4, 8192, 2048]⟩ 32 ⟨2, hd⟩ i else 0#32

/-- It read at an index. -/
theorem lastCoord_at (b : Fin 4) (r : Fin 8192) (q : Fin 2048) : lastCoord (ix3 b r q) = BitVec.ofNat 32 q.val := by
  unfold lastCoord
  rw [dif_pos last_lt]
  rfl

/-- A row's values in the sorted prefix. -/
theorem topK_values (b : Fin 4) (r : Fin 8192) (k : Fin K) :
    (Host.topK ⟨3, ![4, 8192, K]⟩ 2 (FloatOps.cmpfTotal (F := Ideal) (φ := .f32) .gt) x h).1 (ix3 b r k) =
      x (ix3 b r (rank (fun k => x (ix3 b r k)) ⟨k.val, by omega⟩)) :=
  (prefix_at h hK (Host.sort2 ⟨3, ![4, 8192, 2048]⟩ 2 (fun l r => FloatOps.cmpfTotal (F := Ideal) (φ := .f32) .gt l.1 r.1) x lastCoord).1 b r k).trans
    (sort2_at x lastCoord b r _).1

/-- A row's places in the sorted prefix. -/
theorem topK_places (b : Fin 4) (r : Fin 8192) (k : Fin K) :
    (Host.topK ⟨3, ![4, 8192, K]⟩ 2 (FloatOps.cmpfTotal (F := Ideal) (φ := .f32) .gt) x h).2 (ix3 b r k) =
      BitVec.ofNat 32 (rank (fun k => x (ix3 b r k)) ⟨k.val, by omega⟩).val :=
  (prefix_at h hK (Host.sort2 ⟨3, ![4, 8192, 2048]⟩ 2 (fun l r => FloatOps.cmpfTotal (F := Ideal) (φ := .f32) .gt l.1 r.1) x lastCoord).2 b r k).trans
    ((sort2_at x lastCoord b r _).2.trans (lastCoord_at b r _))

end Cert.Mine
-- ==== Proof.Value.RefNear.lean ====
/- What the reference's interpolation holds at one index, at ideal values: over the three nearest coarse points, the branch's value
   times the weight's share. -/
module

public import proofs.«01_k».proof.Proof.Gen.ReferenceIdeal
public import proofs.«01_k».proof.Proof.Gen.ReferenceIdeal.Read
public import proofs.«01_k».proof.Proof.Value.TopK
public import Idealize.ShloMosaic.Lib.ValueIdxCore

@[expose] public section

set_option maxRecDepth 16384

noncomputable section

namespace Cert.Mine

open Idealize.ShloMosaic Idealize.ShloMosaic.TcCoe Idealize.ShloMosaic.Tactic
open Cert.ReferenceIdeal Cert.ReferenceIdeal.Gen Cert.ReferenceIdeal.Read

variable (x0 : FVec Ideal S4x8192x3 .f32) (x2 : FVec Ideal S4x2048x3 .f32)

/-! ## The squared distances -/

/-- The squared distance of a fine and a coarse point. -/
theorem v36_at (b : Fin 4) (r : Fin 8192) (k : Fin 2048) :
    val_main_v36 (F := Ideal) x0 x2 (ix3 b r k) =
      (∑ c, x0 (ix3 b r c) * x0 (ix3 b r c) + ∑ c, x2 (ix3 b k c) * x2 (ix3 b k c))
        - Ideal.ofBits .f32 0x40000000#32 * ∑ c, x0 (ix3 b r c) * x2 (ix3 b k c) := by
  pointwise [val_main_v36, val_main_v35, val_main_v34, val_main_cst_5, val_main_v33, val_main_v32, val_main_v31, val_main_v30,
    val_main_v29, val_main_v28, val_main_v27, val_main_v26, val_main_v25, val_main_v24, val_main_cst_3, val_main_cst_4]

/-- The negated squared distance. -/
theorem v37_at (b : Fin 4) (r : Fin 8192) (k : Fin 2048) :
    val_main_v37 (F := Ideal) x0 x2 (ix3 b r k) = -val_main_v36 (F := Ideal) x0 x2 (ix3 b r k) := by
  pointwise [val_main_v37]

/-- The coarse point a fine point's sorted distances put at a position. -/
def nearAt (b : Fin 4) (r : Fin 8192) (k : Fin 3) : Fin 2048 :=
  rank (fun k => val_main_v37 (F := Ideal) x0 x2 (ix3 b r k)) ⟨k.val, by omega⟩

/-- The three greatest negated squared distances. -/
theorem values_at (b : Fin 4) (r : Fin 8192) (k : Fin 3) :
    val_main_values (F := Ideal) x0 x2 (ix3 b r k) = val_main_v37 (F := Ideal) x0 x2 (ix3 b r (nearAt x0 x2 b r k)) :=
  topK_values _ _ (by decide) b r k

/-- The places of the three greatest. -/
theorem indices_at (b : Fin 4) (r : Fin 8192) (k : Fin 3) :
    val_main_indices (F := Ideal) x0 x2 (ix3 b r k) = BitVec.ofNat 32 (nearAt x0 x2 b r k).val :=
  topK_places _ _ (by decide) b r k

/-! ## The weights -/

/-- One weight. -/
theorem v44_at (b : Fin 4) (r : Fin 8192) (k : Fin 3) :
    val_main_v44 (F := Ideal) x0 x2 (ix3 b r k) =
      Ideal.div 1 (max (-val_main_values (F := Ideal) x0 x2 (ix3 b r k)) 0 + Ideal.ofBits .f32 0x322BCC77#32) := by
  pointwise [val_main_v44, val_main_v43, val_main_cst_8, val_main_v42, val_main_v41, val_main_cst_7, val_main_v40, val_main_v39,
    val_main_cst_6, val_main_v38]

/-- One weight's share. -/
theorem v48_at (b : Fin 4) (r : Fin 8192) (k : Fin 3) :
    val_main_v48 (F := Ideal) x0 x2 (ix3 b r k) =
      Ideal.div (val_main_v44 (F := Ideal) x0 x2 (ix3 b r k)) (∑ j, val_main_v44 (F := Ideal) x0 x2 (ix3 b r j)) := by
  pointwise [val_main_v48, val_main_v47, val_main_v46, val_main_v45, val_main_cst_9]

/-! ## The gathered values -/

/-- A small number's word read signed. -/
theorem toInt_small (n : ℕ) (h : n < 2048) : (BitVec.ofNat 32 n).toInt = (n : ℤ) := by
  have e : (BitVec.ofNat 32 n).toNat = n := by rw [BitVec.toNat_ofNat]; omega
  rw [BitVec.toInt_eq_toNat_of_lt (by rw [e]; omega), e]

/-- The index the gather starts at. -/
theorem v54_at (b : Fin 4) (r : Fin 8192) (k : Fin 3) (z : Fin 1) :
    val_main_v54 (F := Ideal) x0 x2 (ix4 b r k z) = BitVec.ofNat 32 (nearAt x0 x2 b r k).val := by
  have h : val_main_v54 (F := Ideal) x0 x2 (ix4 b r k z) = Scalar.select
      (IntOp.cmpi .slt (val_main_indices (F := Ideal) x0 x2 (ix3 b r k)) 0#32)
      (IntOp.addi (val_main_indices (F := Ideal) x0 x2 (ix3 b r k)) 2048#32) (val_main_indices (F := Ideal) x0 x2 (ix3 b r k)) := by
    pointwise [val_main_v54, val_main_v53, val_main_v52, val_main_v51, val_main_c_11, val_main_v50, val_main_v49, val_main_c_10]
  rw [h, indices_at]
  have hk : (nearAt x0 x2 b r k).val < 2048 := (nearAt x0 x2 b r k).isLt
  generalize (nearAt x0 x2 b r k).val = n at hk
  have hc : IntOp.cmpi .slt (BitVec.ofNat 32 n) 0#32 = 0#1 := by
    show BitVec.ofBool ((BitVec.ofNat 32 n).slt 0#32) = 0#1
    have hz : ¬ ((n : ℤ) < (0#32 : BitVec 32).toInt) := by
      rw [show (0#32 : BitVec 32).toInt = 0 from rfl]; omega
    rw [BitVec.slt_eq_decide, toInt_small n hk, decide_eq_false hz]
    rfl
  rw [hc]
  rfl

/-- The gathered value. -/
theorem gather_at (h : FVec Ideal S4x2048x64 .f32) (i : IVec S4x8192x3x1 32) (b : Fin 4) (r : Fin 8192) (k : Fin 3) (o : Fin 64)
    (n : Fin 2048) (hi : i (ix4 b r k 0) = BitVec.ofNat 32 n.val) :
    Host.gather gather_S4x2048x64_S4x8192x3x1_S4x8192x3x64_3_1_0_0_1_3_1164 h i (ix4 b r k o) = h (ix3 b n o) := by
  unfold Host.gather
  refine congrArg h ?_
  funext a
  refine Fin.ext ?_
  show GatherDims.start _ (ix4 b r k o) i a + GatherDims.batchCoord _ (ix4 b r k o) a + GatherDims.offCoord _ (ix4 b r k o) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have hsi : gather_S4x2048x64_S4x8192x3x1_S4x8192x3x64_3_1_0_0_1_3_1164.siIdx (ix4 b r k o) ⟨List.idxOf (1 : Fin 3)
        gather_S4x2048x64_S4x8192x3x1_S4x8192x3x64_3_1_0_0_1_3_1164.startIndexMap, by decide⟩ = ix4 b r k 0 := by
      funext c; refine Fin.ext ?_
      match c with
      | ⟨0, _⟩ => rfl
      | ⟨1, _⟩ => rfl
      | ⟨2, _⟩ => rfl
      | ⟨3, _⟩ => rfl
    rw [hsi, hi, toInt_small n.val n.isLt]
    show min n.val (2048 - 1) = n.val
    omega
  · rw [GatherDims.batchCoord_eq_zero _ _ _ (by decide)]
    have h0 : gather_S4x2048x64_S4x8192x3x1_S4x8192x3x64_3_1_0_0_1_3_1164.start (ix4 b r k o) i 2 = 0 := by
      unfold GatherDims.start
      rw [dif_neg (by decide)]
    rw [h0]
    simp only [Nat.zero_add, Nat.add_zero]
    unfold GatherDims.offCoord
    rw [dif_pos (by decide)]
    rfl

/-- The interpolated value. -/
theorem v59_at (x3 : FVec Ideal S4x2048x128 .f32) (x4 : FVec Ideal S64x128 .f32) (x5 x6 x7 : FVec Ideal S64 .f32)
    (b : Fin 4) (r : Fin 8192) (o : Fin 64) :
    val_main_v59 (F := Ideal) x0 x2 x3 x4 x5 x6 x7 (ix3 b r o) =
      ∑ k, val_main_v23 (F := Ideal) x3 x4 x5 x6 x7 (ix3 b (nearAt x0 x2 b r k) o) * val_main_v48 (F := Ideal) x0 x2 (ix3 b r k) := by
  have e : val_main_v59 (F := Ideal) x0 x2 x3 x4 x5 x6 x7 (ix3 b r o) =
      ∑ k, val_main_v55 (F := Ideal) x0 x2 x3 x4 x5 x6 x7 (ix4 b r k o) * val_main_v48 (F := Ideal) x0 x2 (ix3 b r k) := by
    pointwise [val_main_v59, val_main_cst_12, val_main_v58, val_main_v57, val_main_v56]
  rw [e]
  refine Finset.sum_congr rfl fun k _ => congrArg (· * _) ?_
  exact gather_at _ _ b r k o _ (v54_at x0 x2 b r k 0)

/-- The result. -/
theorem v84_at (x1 : FVec Ideal S4x8192x64 .f32) (x3 : FVec Ideal S4x2048x128 .f32) (x4 : FVec Ideal S64x128 .f32) (x5 x6 x7 : FVec Ideal S64 .f32)
    (x8 : FVec Ideal S64x64 .f32) (x9 x10 x11 : FVec Ideal S64 .f32) (b : Fin 4) (r : Fin 8192) (o : Fin 64) :
    val_main_v84 (F := Ideal) x0 x1 x2 x3 x4 x5 x6 x7 x8 x9 x10 x11 (ix3 b r o) =
      val_main_v59 (F := Ideal) x0 x2 x3 x4 x5 x6 x7 (ix3 b r o) + val_main_v83 (F := Ideal) x1 x8 x9 x10 x11 (ix3 b r o) := by
  pointwise [val_main_v84]

end Cert.Mine
-- ==== Proof.Value.Pre.lean ====
/- What the precondition says: the named arguments hold real numbers, and the four nearest coarse points of a fine point are at
   four different distances. -/
module

public import proofs.«01_k».proof.Pre_finite_no_ties
public import proofs.«01_k».proof.Proof.Value.RefNear

@[expose] public section

set_option maxRecDepth 16384

noncomputable section

namespace Cert.Mine

open Idealize.ShloMosaic Idealize.ShloMosaic.TcCoe Idealize.ShloMosaic.Tactic
open Cert.Pre_finite_no_ties

/-- The side conditions of the precondition's operations. -/
theorem pre_facts : Cert.Pre_finite_no_ties.Facts where
  bcast_S_S4x8192x3 := by decide
  bcast_S_S4x8192x64 := by decide
  bcast_S_S4x2048x3 := by decide
  bcast_S_S4x2048x128 := by decide
  bcast_S_S64x128 := by decide
  bcast_S_S64 := by decide
  bcast_S_S64x64 := by decide
  reducesTo_S4x8192x3_S4x8192_d2 := by decide
  h_S_ := by decide
  bcast_S4x8192_S4x8192x1_0_1 := by decide
  reducesTo_S4x2048x3_S4x2048_d2 := by decide
  bcast_S4x2048_S4x1x2048_0_2 := by decide
  bcast_S4x8192x1_S4x8192x2048_0_1_2 := by decide
  bcast_S4x1x2048_S4x8192x2048_0_1_2 := by decide
  bcast_S_S4x8192x2048 := by decide
  sliceFits_S4x8192x2048_S4x8192x4 := by decide
  slices_S4x8192x4_S4x8192x3_0_0_0 := by decide
  slices_S4x8192x4_S4x8192x3_0_0_1 := by decide
  dot_S4x8192x3_S4x2048x3_S4x8192x2048_2_2_1_1_0_0_wf := by decide

/-- A number whose absolute value is below infinity is real. -/
theorem real_of_abs_lt (x : EReal) (h : max x (-x) < ⊤) : x = ((x.toReal : ℝ) : EReal) := by
  refine (EReal.coe_toReal (fun e => ?_) (fun e => ?_)).symm
  · rw [e] at h; exact lt_irrefl _ (lt_of_le_of_lt (le_max_left _ _) h)
  · rw [e] at h; exact lt_irrefl _ (lt_of_le_of_lt (le_max_right _ _) h)

/-- An array that passes the precondition's test for finiteness holds reals. -/
theorem real_of_mask {s : Shape} (x : FVec Ideal s .f32) (h : S_.BroadcastsInDim s (![] : Fin 0 → Fin s.rank))
    (hm : cmpf .olt (Host.absf x) (broadcastInDim s ![] h (constant S_ .f32 0x7F800000#32)) = fun _ => 1#1) (i : s.Idx) :
    x i = ((x i).toReal : ℝ) := by
  have e : BitVec.ofBool (decide (max (x i) (-x i) < Ideal.ofBits .f32 0x7F800000#32)) = 1#1 := congrFun hm i
  rw [ofBits_inf] at e
  refine real_of_abs_lt _ ?_
  by_contra hn
  rw [decide_eq_false hn] at e
  exact absurd e (by decide)

/-- What the precondition gives of the arguments. -/
structure Good (x0 : FVec Ideal S4x8192x3 .f32) (x1 : FVec Ideal S4x8192x64 .f32) (x2 : FVec Ideal S4x2048x3 .f32) (x3 : FVec Ideal S4x2048x128 .f32)
  (x4 : FVec Ideal S64x128 .f32) (x5 x6 x7 : FVec Ideal S64 .f32) (x8 : FVec Ideal S64x64 .f32) (x9 x10 x11 : FVec Ideal S64 .f32) : Prop where
  r0 : ∀ i, x0 i = ((x0 i).toReal : ℝ)
  r1 : ∀ i, x1 i = ((x1 i).toReal : ℝ)
  r2 : ∀ i, x2 i = ((x2 i).toReal : ℝ)
  r3 : ∀ i, x3 i = ((x3 i).toReal : ℝ)
  r4 : ∀ i, x4 i = ((x4 i).toReal : ℝ)
  r5 : ∀ i, x5 i = ((x5 i).toReal : ℝ)
  r6 : ∀ i, x6 i = ((x6 i).toReal : ℝ)
  r8 : ∀ i, x8 i = ((x8 i).toReal : ℝ)
  r9 : ∀ i, x9 i = ((x9 i).toReal : ℝ)
  r10 : ∀ i, x10 i = ((x10 i).toReal : ℝ)
  /-- The four greatest of a row of negated squared distances differ, one from the next. -/
  gap : ∀ (b : Fin 4) (r : Fin 8192) (i : Fin 3),
    (fun k => Cert.ReferenceIdeal.Read.val_main_v37 (F := Ideal) x0 x2 (ix3 b r k))
      (rank (fun k => Cert.ReferenceIdeal.Read.val_main_v37 (F := Ideal) x0 x2 (ix3 b r k)) ⟨i.val + 1, by omega⟩) <
    (fun k => Cert.ReferenceIdeal.Read.val_main_v37 (F := Ideal) x0 x2 (ix3 b r k))
      (rank (fun k => Cert.ReferenceIdeal.Read.val_main_v37 (F := Ideal) x0 x2 (ix3 b r k)) ⟨i.val, by omega⟩)

/-- A table of four values a row whose first three pass the test against the last three decreases along its rows. -/
theorem decreasing_of_mask (v : FVec Ideal S4x8192x4 .f32) (h0 : S4x8192x4.Slices ![0, 0, 0] S4x8192x3) (h1 : S4x8192x4.Slices ![0, 0, 1] S4x8192x3)
    (hm : cmpf .ogt (extractStridedSlice S4x8192x3 ![0, 0, 0] v h0) (extractStridedSlice S4x8192x3 ![0, 0, 1] v h1) = fun _ => 1#1)
    (b : Fin 4) (r : Fin 8192) (i : Fin 3) : v (ix3 b r ⟨i.val + 1, by omega⟩) < v (ix3 b r ⟨i.val, by omega⟩) := by
  have e0 : extractStridedSlice S4x8192x3 ![0, 0, 0] v h0 (ix3 b r i) = v (ix3 b r ⟨i.val, by omega⟩) := by
    refine congrArg v ?_
    funext a
    apply Fin.ext
    match a with
    | ⟨0, _⟩ => exact zero_add _
    | ⟨1, _⟩ => exact zero_add _
    | ⟨2, _⟩ => exact zero_add _
  have e1 : extractStridedSlice S4x8192x3 ![0, 0, 1] v h1 (ix3 b r i) = v (ix3 b r ⟨i.val + 1, by omega⟩) := by
    refine congrArg v ?_
    funext a
    apply Fin.ext
    match a with
    | ⟨0, _⟩ => exact zero_add _
    | ⟨1, _⟩ => exact zero_add _
    | ⟨2, _⟩ => exact add_comm _ _
  have e : BitVec.ofBool (decide (extractStridedSlice S4x8192x3 ![0, 0, 0] v h0 (ix3 b r i) >
      extractStridedSlice S4x8192x3 ![0, 0, 1] v h1 (ix3 b r i))) = 1#1 := congrFun hm (ix3 b r i)
  rw [e0, e1] at e
  by_contra hn
  rw [decide_eq_false hn] at e
  exact absurd e (by decide)

/-- The precondition's last test, on any rows. -/
theorem gap_of_mask (v : FVec Ideal ⟨3, ![4, 8192, 2048]⟩ .f32) (hf : S4x8192x2048.Slices (fun _ => 0) S4x8192x4)
    (h0 : S4x8192x4.Slices ![0, 0, 0] S4x8192x3) (h1 : S4x8192x4.Slices ![0, 0, 1] S4x8192x3)
    (hm : cmpf .ogt (extractStridedSlice S4x8192x3 ![0, 0, 0] (Host.topK S4x8192x4 2 (FloatOps.cmpfTotal (F := Ideal) (φ := .f32) .gt) v hf).1 h0)
      (extractStridedSlice S4x8192x3 ![0, 0, 1] (Host.topK S4x8192x4 2 (FloatOps.cmpfTotal (F := Ideal) (φ := .f32) .gt) v hf).1 h1) = fun _ => 1#1)
    (b : Fin 4) (r : Fin 8192) (i : Fin 3) :
    v (ix3 b r (rank (fun k => v (ix3 b r k)) ⟨i.val + 1, by omega⟩)) < v (ix3 b r (rank (fun k => v (ix3 b r k)) ⟨i.val, by omega⟩)) :=
  lt_of_eq_of_lt (topK_values v hf (by decide) b r ⟨i.val + 1, by omega⟩).symm
    (lt_of_lt_of_eq (decreasing_of_mask _ h0 h1 hm b r i) (topK_values v hf (by decide) b r ⟨i.val, by omega⟩))

/-- The precondition gives what is said above. -/
theorem good_of_pre [hF : Cert.Pre_finite_no_ties.Facts] (x0 : FVec Ideal S4x8192x3 .f32) (x1 : FVec Ideal S4x8192x64 .f32) (x2 : FVec Ideal S4x2048x3 .f32) (x3 : FVec Ideal S4x2048x128 .f32)
  (x4 : FVec Ideal S64x128 .f32) (x5 x6 x7 : FVec Ideal S64 .f32) (x8 : FVec Ideal S64x64 .f32) (x9 x10 x11 : FVec Ideal S64 .f32)
    (h : (fn (F := Ideal) x0 x1 x2 x3 x4 x5 x6 x7 x8 x9 x10 x11).1 = (fun _ => 1#1)
      ∧ (fn (F := Ideal) x0 x1 x2 x3 x4 x5 x6 x7 x8 x9 x10 x11).2.1 = (fun _ => 1#1)
      ∧ (fn (F := Ideal) x0 x1 x2 x3 x4 x5 x6 x7 x8 x9 x10 x11).2.2.1 = (fun _ => 1#1)
      ∧ (fn (F := Ideal) x0 x1 x2 x3 x4 x5 x6 x7 x8 x9 x10 x11).2.2.2.1 = (fun _ => 1#1)
      ∧ (fn (F := Ideal) x0 x1 x2 x3 x4 x5 x6 x7 x8 x9 x10 x11).2.2.2.2.1 = (fun _ => 1#1)
      ∧ (fn (F := Ideal) x0 x1 x2 x3 x4 x5 x6 x7 x8 x9 x10 x11).2.2.2.2.2.1 = (fun _ => 1#1)
      ∧ (fn (F := Ideal) x0 x1 x2 x3 x4 x5 x6 x7 x8 x9 x10 x11).2.2.2.2.2.2.1 = (fun _ => 1#1)
      ∧ (fn (F := Ideal) x0 x1 x2 x3 x4 x5 x6 x7 x8 x9 x10 x11).2.2.2.2.2.2.2.1 = (fun _ => 1#1)
      ∧ (fn (F := Ideal) x0 x1 x2 x3 x4 x5 x6 x7 x8 x9 x10 x11).2.2.2.2.2.2.2.2.1 = (fun _ => 1#1)
      ∧ (fn (F := Ideal) x0 x1 x2 x3 x4 x5 x6 x7 x8 x9 x10 x11).2.2.2.2.2.2.2.2.2.1 = (fun _ => 1#1)
      ∧ (fn (F := Ideal) x0 x1 x2 x3 x4 x5 x6 x7 x8 x9 x10 x11).2.2.2.2.2.2.2.2.2.2 = (fun _ => 1#1)) :
    Good x0 x1 x2 x3 x4 x5 x6 x7 x8 x9 x10 x11 := by
  obtain ⟨h0, h1, h2, h3, h4, h5, h6, h8, h9, h10, hg⟩ := h
  exact ⟨real_of_mask x0 _ h0, real_of_mask x1 _ h1, real_of_mask x2 _ h2, real_of_mask x3 _ h3, real_of_mask x4 _ h4,
    real_of_mask x5 _ h5, real_of_mask x6 _ h6, real_of_mask x8 _ h8, real_of_mask x9 _ h9, real_of_mask x10 _ h10,
    gap_of_mask _ _ _ _ hg⟩

end Cert.Mine

end
-- ==== Proof.Value.Distances.lean ====
/- The squared distances over real points, and the reference's interpolation in terms of them. -/
module

public import proofs.«01_k».proof.Proof.Value.Pre

@[expose] public section

set_option maxRecDepth 16384

noncomputable section

namespace Cert.Mine

open Idealize.ShloMosaic Idealize.ShloMosaic.TcCoe Idealize.ShloMosaic.Tactic
open Cert.ReferenceIdeal Cert.ReferenceIdeal.Gen Cert.ReferenceIdeal.Read

variable (x0 : FVec Ideal S4x8192x3 .f32) (x2 : FVec Ideal S4x2048x3 .f32)

/-- A fine point's squared length. -/
def length2 (b : Fin 4) (r : Fin 8192) : ℝ := ∑ c, (x0 (ix3 b r c)).toReal * (x0 (ix3 b r c)).toReal

/-- The squared distance less the fine point's squared length. -/
def rest (b : Fin 4) (r : Fin 8192) (k : Fin 2048) : ℝ :=
  ∑ c, -2 * (x0 (ix3 b r c)).toReal * (x2 (ix3 b k c)).toReal + ∑ c, (x2 (ix3 b k c)).toReal * (x2 (ix3 b k c)).toReal

/-- The squared distance. -/
def dist2 (b : Fin 4) (r : Fin 8192) (k : Fin 2048) : ℝ := rest x0 x2 b r k + length2 x0 b r

variable (h0 : ∀ i, x0 i = ((x0 i).toReal : ℝ)) (h2 : ∀ i, x2 i = ((x2 i).toReal : ℝ))

include h0 in
theorem length2_eq (b : Fin 4) (r : Fin 8192) : ∑ c, x0 (ix3 b r c) * x0 (ix3 b r c) = (length2 x0 b r : EReal) := by
  unfold length2
  rw [← sum_coe]
  refine Finset.sum_congr rfl fun c _ => ?_
  rw [EReal.coe_mul, ← h0]

include h0 h2

theorem rest_eq (b : Fin 4) (r : Fin 8192) (k : Fin 2048) :
    ∑ c, Ideal.ofBits .f32 0xC0000000#32 * x0 (ix3 b r c) * x2 (ix3 b k c) + ∑ c, x2 (ix3 b k c) * x2 (ix3 b k c) = (rest x0 x2 b r k : EReal) := by
  unfold rest
  rw [EReal.coe_add, ← sum_coe, ← sum_coe, ofBits_neg_two]
  congr 1 <;> refine Finset.sum_congr rfl fun c _ => ?_
  · rw [EReal.coe_mul, EReal.coe_mul, ← h0, ← h2]
  · rw [EReal.coe_mul, ← h2]

/-- The reference's squared distance. -/
theorem v36_real (b : Fin 4) (r : Fin 8192) (k : Fin 2048) : val_main_v36 (F := Ideal) x0 x2 (ix3 b r k) = (dist2 x0 x2 b r k : EReal) := by
  have e : ∑ c, x0 (ix3 b r c) * x2 (ix3 b k c) = ((∑ c, (x0 (ix3 b r c)).toReal * (x2 (ix3 b k c)).toReal : ℝ) : EReal) := by
    rw [← sum_coe]
    refine Finset.sum_congr rfl fun c _ => ?_
    rw [EReal.coe_mul, ← h0, ← h2]
  have e2 : ∑ c, x2 (ix3 b k c) * x2 (ix3 b k c) = ((∑ c, (x2 (ix3 b k c)).toReal * (x2 (ix3 b k c)).toReal : ℝ) : EReal) := by
    rw [← sum_coe]
    refine Finset.sum_congr rfl fun c _ => ?_
    rw [EReal.coe_mul, ← h2]
  rw [v36_at, e, e2, length2_eq x0 h0, ofBits_two, ← EReal.coe_mul, ← EReal.coe_add, ← EReal.coe_sub]
  congr 1
  unfold dist2 rest
  have hm : ∑ c, -2 * (x0 (ix3 b r c)).toReal * (x2 (ix3 b k c)).toReal = -2 * ∑ c, (x0 (ix3 b r c)).toReal * (x2 (ix3 b k c)).toReal := by
    rw [Finset.mul_sum]
    exact Finset.sum_congr rfl fun c _ => by ring
  rw [hm]
  ring

theorem v37_real (b : Fin 4) (r : Fin 8192) (k : Fin 2048) : val_main_v37 (F := Ideal) x0 x2 (ix3 b r k) = ((-dist2 x0 x2 b r k : ℝ) : EReal) := by
  rw [v37_at, v36_real x0 x2 h0 h2, EReal.coe_neg]

/-- The places the reference sorts to the front are the nearest. -/
theorem nearest_at (gap : ∀ (b : Fin 4) (r : Fin 8192) (i : Fin 3),
    (fun k => val_main_v37 (F := Ideal) x0 x2 (ix3 b r k)) (rank (fun k => val_main_v37 (F := Ideal) x0 x2 (ix3 b r k)) ⟨i.val + 1, by omega⟩) <
    (fun k => val_main_v37 (F := Ideal) x0 x2 (ix3 b r k)) (rank (fun k => val_main_v37 (F := Ideal) x0 x2 (ix3 b r k)) ⟨i.val, by omega⟩))
    (b : Fin 4) (r : Fin 8192) : Nearest (rest x0 x2 b r) (nearAt x0 x2 b r) :=
  (nearest_rank (by decide) (dist2 x0 x2 b r) (fun k => val_main_v37 (F := Ideal) x0 x2 (ix3 b r k)) (v37_real x0 x2 h0 h2 b r) (gap b r)).moved
    (length2 x0 b r) fun _ => rfl

/-- The reference's weight. -/
theorem v44_real (b : Fin 4) (r : Fin 8192) (k : Fin 3) :
    val_main_v44 (F := Ideal) x0 x2 (ix3 b r k) = (weight (dist2 x0 x2 b r (nearAt x0 x2 b r k)) : EReal) := by
  rw [v44_at, values_at, v37_real x0 x2 h0 h2, ← EReal.coe_neg, neg_neg, weight_eq]

/-- The reference's result at one index. -/
theorem result_at (x1 : FVec Ideal S4x8192x64 .f32) (x3 : FVec Ideal S4x2048x128 .f32) (x4 : FVec Ideal S64x128 .f32) (x5 x6 x7 : FVec Ideal S64 .f32)
    (x8 : FVec Ideal S64x64 .f32) (x9 x10 x11 : FVec Ideal S64 .f32) (b : Fin 4) (r : Fin 8192) (o : Fin 64) :
    val_main_v84 (F := Ideal) x0 x1 x2 x3 x4 x5 x6 x7 x8 x9 x10 x11 (ix3 b r o) =
      (∑ i : Fin 3, val_main_v23 (F := Ideal) x3 x4 x5 x6 x7 (ix3 b (nearAt x0 x2 b r i) o) *
        Ideal.div (weight (rest x0 x2 b r (nearAt x0 x2 b r i) + length2 x0 b r) : EReal)
          (∑ j : Fin 3, (weight (rest x0 x2 b r (nearAt x0 x2 b r j) + length2 x0 b r) : EReal))) +
        val_main_v83 (F := Ideal) x1 x8 x9 x10 x11 (ix3 b r o) := by
  rw [v84_at, v59_at]
  simp only [v48_at, v44_real x0 x2 h0 h2]
  rfl

end Cert.Mine

end
-- ==== Proof.Value.Output.lean ====
/- The kernel's result array: every block it writes back holds the reference's result there. -/
module

public import proofs.«01_k».proof.Proof.Value.Sums
public import proofs.«01_k».proof.Proof.Value.Query
public import proofs.«01_k».proof.Proof.Value.RefCoarse
public import proofs.«01_k».proof.Proof.Value.RefFine
public import proofs.«01_k».proof.Proof.Value.Distances

@[expose] public section

set_option maxRecDepth 16384

noncomputable section

namespace Cert.KernelIdeal.Mine

open Idealize.ShloMosaic Idealize.ShloMosaic.TcCoe Idealize.ShloMosaic.Tactic
open Cert.KernelIdeal Cert.KernelIdeal.Gen
open Cert.Mine

/-- The rows of transformed coarse features that a query point loads are its batch's. -/
theorem off2_row : ∀ t : Fin grid0.N, 8 ≤ t.val → k0_off2 (grid0.coords t) 0 = 2048 * ((t.val - 8) / 8) := by decide +kernel
theorem off2_col : ∀ t : Fin grid0.N, k0_off2 (grid0.coords t) 1 = 0 := by decide +kernel

variable (m : (ℓ : Loc nD τ sig) → Buf (Elt Ideal) ℓ) (c : Dev nD)

/-! ## The arguments by short names -/

abbrev a0 : FVec Ideal S4x8192x3 .f32 := m ((c : Thread nD τ).loc main_arg0)
abbrev a1 : FVec Ideal S4x8192x64 .f32 := m ((c : Thread nD τ).loc main_arg1)
abbrev a2 : FVec Ideal S4x2048x3 .f32 := m ((c : Thread nD τ).loc main_arg2)
abbrev a3 : FVec Ideal S4x2048x128 .f32 := m ((c : Thread nD τ).loc main_arg3)
abbrev a4 : FVec Ideal S64x128 .f32 := m ((c : Thread nD τ).loc main_arg4)
abbrev a5 : FVec Ideal S64 .f32 := m ((c : Thread nD τ).loc main_arg5)
abbrev a6 : FVec Ideal S64 .f32 := m ((c : Thread nD τ).loc main_arg6)
abbrev a7 : FVec Ideal S64 .f32 := m ((c : Thread nD τ).loc main_arg7)
abbrev a8 : FVec Ideal S64x64 .f32 := m ((c : Thread nD τ).loc main_arg8)
abbrev a9 : FVec Ideal S64 .f32 := m ((c : Thread nD τ).loc main_arg9)
abbrev a10 : FVec Ideal S64 .f32 := m ((c : Thread nD τ).loc main_arg10)
abbrev a11 : FVec Ideal S64 .f32 := m ((c : Thread nD τ).loc main_arg11)

/-- The reference's result of the kernel's arguments. -/
def want : FVec Ideal S4x8192x64 .f32 :=
  Cert.ReferenceIdeal.Read.val_main_v84 (F := Ideal) (a0 m c) (a1 m c) (a2 m c) (a3 m c) (a4 m c) (a5 m c) (a6 m c) (a7 m c) (a8 m c) (a9 m c) (a10 m c) (a11 m c)

variable (hg : Good (a0 m c) (a1 m c) (a2 m c) (a3 m c) (a4 m c) (a5 m c) (a6 m c) (a7 m c) (a8 m c) (a9 m c) (a10 m c) (a11 m c))

include hg

/-- A row of the transformed coarse features holds the reference's values. -/
theorem H2_ref (b : Fin 4) (k : Fin 2048) (o : Fin 64) (r : Fin 8192) (hr : r.val = 2048 * b.val + k.val) :
    H2 m c (ix2 r o) = Cert.ReferenceIdeal.Read.val_main_v23 (F := Ideal) (a3 m c) (a4 m c) (a5 m c) (a6 m c) (a7 m c) (ix3 b k o) := by
  rw [v23_normed (a3 m c) (a4 m c) (a5 m c) (a6 m c) (a7 m c) (fun p a => (a3 m c (ix3 p.1 p.2 a)).toReal) (fun o a => (a4 m c (ix2 o a)).toReal)
    (fun o => (a5 m c (ix1 o)).toReal) (fun o => (a6 m c (ix1 o)).toReal) (fun _ _ _ => hg.r3 _) (fun _ _ => hg.r4 _) (fun _ => hg.r5 _) (fun _ => hg.r6 _)]
  exact H2_at m c (fun p a => (a3 m c (ix3 p.1 p.2 a)).toReal) (fun _ _ _ => hg.r3 _) (fun o a => (a4 m c (ix2 o a)).toReal)
    (fun o => (a6 m c (ix1 o)).toReal) (fun _ _ => hg.r4 _) (fun _ => hg.r6 _) (fun o => (a5 m c (ix1 o)).toReal) b k o r hr

/-- The fine point's own transformed features are the reference's. -/
theorem own_ref (x : FVec Ideal S1x1024x64 .f32) (w : FVec Ideal S64x64 .f32) (b : Fin 4) (r : Fin 8192) (a : Fin 1024) (o : Fin 64)
    (hx : ∀ k, x (ix3 0 a k) = a1 m c (ix3 b r k)) (hw : ∀ k, w (ix2 o k) = a8 m c (ix2 o k)) :
    max ((∑ k, x (ix3 0 a k) * w (ix2 o k)) * SC1 m c (ix2 0 o) + SH1 m c (ix2 0 o)) 0 =
      Cert.ReferenceIdeal.Read.val_main_v83 (F := Ideal) (a1 m c) (a8 m c) (a9 m c) (a10 m c) (a11 m c) (ix3 b r o) := by
  rw [v83_normed (a1 m c) (a8 m c) (a9 m c) (a10 m c) (a11 m c) (fun p a => (a1 m c (ix3 p.1 p.2 a)).toReal) (fun o a => (a8 m c (ix2 o a)).toReal)
    (fun o => (a9 m c (ix1 o)).toReal) (fun o => (a10 m c (ix1 o)).toReal) (fun _ _ _ => hg.r1 _) (fun _ _ => hg.r8 _) (fun _ => hg.r9 _) (fun _ => hg.r10 _),
    ← normed_of_scale]
  rw [SC1_at m c (fun p a => (a1 m c (ix3 p.1 p.2 a)).toReal) (fun _ _ _ => hg.r1 _) (fun o a => (a8 m c (ix2 o a)).toReal)
      (fun o => (a10 m c (ix1 o)).toReal) (fun _ _ => hg.r8 _) (fun _ => hg.r10 _),
    SH1_at m c (fun p a => (a1 m c (ix3 p.1 p.2 a)).toReal) (fun _ _ _ => hg.r1 _) (fun o a => (a8 m c (ix2 o a)).toReal)
      (fun o => (a10 m c (ix1 o)).toReal) (fun _ _ => hg.r8 _) (fun _ => hg.r10 _) 0 o (a11 m c (ix1 o)) rfl]
  congr 3
  refine Finset.sum_congr rfl fun k _ => ?_
  rw [hx, hw]
  exact congrArg₂ (· * ·) (hg.r1 _) (hg.r8 _)

/-- The output block at a query point is the reference's result. -/
theorem block_at (t : Fin cfg0.N) (h : 8 ≤ t.val) (hq : k0_cond4 (grid0.coords t) = 1#1) (b : Fin 4) (r : Fin 8192) (hb : b.val = (t.val - 8) / 8)
    (z : Fin 1) (a : Fin 1024) (hr : r.val = (t.val - 8) % 8 * 1024 + a.val) (o : Fin 64) :
    outV m c t hq (ix3 z a o) = want m c (ix3 b r o) := by
  have e1 : (⟨(t.val - 8) / 8, by have := point_lt t; omega⟩ : Fin 4) = b := Fin.ext hb.symm
  have e2 : (⟨(t.val - 8) % 8 * 1024 + a.val, by omega⟩ : Fin 8192) = r := Fin.ext hr.symm
  have hA : ∀ k : Fin 2048, (View.ld (H2 m c) (Rect.unit (s := S8192x64) (k0_off2 (grid0.coords t)) S2048x64.size (k0_off2_inb (grid0.coords t) hq)) : FVec Ideal S2048x64 .f32) (ix2 k o) =
      Cert.ReferenceIdeal.Read.val_main_v23 (F := Ideal) (a3 m c) (a4 m c) (a5 m c) (a6 m c) (a7 m c) (ix3 b k o) := fun k => by
    rw [← H2_ref m c hg b k o ⟨2048 * b.val + k.val, by omega⟩ rfl]
    refine View.ld_unit_apply_of _ _ _ _ _ _ fun x => ?_
    match x with
    | ⟨0, _⟩ => show 2048 * b.val + k.val = k0_off2 (grid0.coords t) 0 + k.val; rw [off2_row t h, hb]
    | ⟨1, _⟩ => show o.val = k0_off2 (grid0.coords t) 1 + o.val; rw [off2_col t, Nat.zero_add]
  unfold want
  rw [result_at (a0 m c) (a2 m c) hg.r0 hg.r2]
  unfold outV
  rw [outOf_at (iblk m c 2 t) (iblk m c 4 t) _ (iblk m c 3 t) (iblk m c 6 t) (SC1 m c) (SH1 m c) z a o (rest (a0 m c) (a2 m c) b r) (length2 (a0 m c) b r)
    (nearAt (a0 m c) (a2 m c) b r) (nearest_at (a0 m c) (a2 m c) hg.r0 hg.r2 hg.gap b r) ?_ ?_ ?_]
  · rw [own_ref m c hg (iblk m c 3 t) (iblk m c 6 t) b r a o (fun k => by rw [fine_features_at m c t h, e1, e2]) (fun k => fine_weights_at m c t o k)]
    simp only [hA]
  · intro k
    unfold row
    rw [pay26_at, ← rest_eq (a0 m c) (a2 m c) hg.r0 hg.r2]
    simp only [fine_points_at m c t h, coarse_points_at m c t h, e1, e2]
  · rw [pay25_at, ← length2_eq (a0 m c) hg.r0]
    simp only [fine_points_at m c t h, e1, e2]
  · intro k
    rw [hA, v23_normed (a3 m c) (a4 m c) (a5 m c) (a6 m c) (a7 m c) (fun p a => (a3 m c (ix3 p.1 p.2 a)).toReal) (fun o a => (a4 m c (ix2 o a)).toReal)
      (fun o => (a5 m c (ix1 o)).toReal) (fun o => (a6 m c (ix1 o)).toReal) (fun _ _ _ => hg.r3 _) (fun _ _ => hg.r4 _) (fun _ => hg.r5 _) (fun _ => hg.r6 _)]
    exact normed_nonneg _ _ _ _ _ _ _

/-- The kernel's result array after the run is the reference's result. -/
theorem result_eq : (dats m 0 c).arrAt 11 cfg0.N = want m c := by
  refine (dats m 0 c).arrAt_eq_of_covers 11 (want m c) (by decide +kernel) fun t hf y => ?_
  have h : 8 ≤ t.val := by
    by_contra hn
    rw [show (cfg0.win 11).flush t = win0_11.flush t from rfl, flush11 t (by omega)] at hf
    exact absurd hf (by decide)
  have hq := (hcond3 t).mpr h
  rw [after0_11 m c t hq]
  blk_simp
  have h40 := point_lt t
  have y1 : (y 1).val < 1024 := (y 1).isLt
  have y2 : (y 2).val < 64 := (y 2).isLt
  have y0 : (y 0).val < 1 := (y 0).isLt
  have ey : (y : S1x1024x64.Idx) = ix3 0 ⟨(y 1).val, y1⟩ ⟨(y 2).val, y2⟩ := by
    funext x
    apply Fin.ext
    match x with
    | ⟨0, _⟩ => show (y 0).val = 0; omega
    | ⟨1, _⟩ => rfl
    | ⟨2, _⟩ => rfl
  have ee : (win0_11.blk t).view.emb y = (ix3 ⟨(t.val - 8) / 8, by omega⟩ ⟨(t.val - 8) % 8 * 1024 + (y 1).val, by omega⟩ ⟨(y 2).val, y2⟩ : S4x8192x64.Idx) := by
    blk_ext [index11]
  rw [ee]
  refine Eq.trans (congrArg (outV m c t hq) ey) ?_
  exact block_at m c hg t h hq _ _ rfl 0 _ rfl _

end Cert.KernelIdeal.Mine

end
-- ==== Proof.Value.Algebraic.lean ====
/- The kernel and the reference, both at ideal values, end with the same result. -/
module

public import proofs.«01_k».proof.Defs
public import proofs.«01_k».proof.Proof.Body.Run
public import proofs.«01_k».proof.Proof.Value.Output
public import proofs.«01_k».proof.Proof.Gen.ReferenceIdeal.Run
public import proofs.«01_k».proof.Proof.Gen.ReferenceIdeal.Read
public import Idealize.ShloMosaic.Lib.Claim

@[expose] public section

set_option maxRecDepth 16384

noncomputable section

namespace Cert.Mine

open Idealize.ShloMosaic Idealize.ShloMosaic.TcCoe Idealize.SL.Sem

/-- The kernel's run at ideal values, its result named. -/
theorem kernel_run [hF : Cert.Pre_finite_no_ties.Facts] (m : (ℓ : Loc Cert.KernelIdeal.nD Cert.KernelIdeal.τ Cert.KernelIdeal.sig) → Buf (Elt Ideal) ℓ)
    (g : Dev Cert.KernelIdeal.nD → PrngReg) (hpre : Cert.Pre_KernelIdeal_finite_no_ties m) :
    θ_run (Cert.KernelIdeal.defs (F := Ideal)) (onTc (τ := Cert.KernelIdeal.τ) (Cert.KernelIdeal.main (F := Ideal))) ⟨m, fun _ => 0, g⟩
      fun r => ∀ c : Dev Cert.KernelIdeal.nD,
        r.2.mem ((c.tc : Thread Cert.KernelIdeal.nD Cert.KernelIdeal.τ).loc Cert.KernelIdeal.main_v6) = Cert.KernelIdeal.Mine.want m c :=
  (θ_run Cert.KernelIdeal.defs _ _).mono
    (fun _ h c => ((h c).1 11).trans (Cert.KernelIdeal.Mine.result_eq m c (good_of_pre _ _ _ _ _ _ _ _ _ _ _ _ (hpre c))))
    (Cert.KernelIdeal.Mine.run_main m g)

/-- The two programs agree. -/
theorem algebraic [hF : Cert.Pre_finite_no_ties.Facts] : Cert.algebraic_KernelIdeal_ReferenceIdeal_pre_finite_no_ties := by
  intro m g m' g' hpre hagree
  refine ⟨fun c => Cert.KernelIdeal.Mine.want m c, ?_, ?_⟩
  · exact (θ_run Cert.KernelIdeal.defs _ _).mono (fun _ h c => ⟨h.1 c, h.2.1 c⟩)
      (θ_run_and (kernel_run m g hpre) (Cert.KernelIdeal.Mine.frame (F := Ideal) m g))
  · refine (θ_run Cert.ReferenceIdeal.defs _ _).mono (fun _ h c => ⟨(h c).1.trans ?_, (h c).2⟩) (Cert.ReferenceIdeal.Value.run (F := Ideal) m' g')
    obtain ⟨e0, e1, e2, e3, e4, e5, e6, e7, e8, e9, e10, e11⟩ := hagree c
    rw [Cert.ReferenceIdeal.Read.val_main_v84_eq, e0, e1, e2, e3, e4, e5, e6, e7, e8, e9, e10, e11]
    rfl

end Cert.Mine

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import proofs.«01_k».proof.Proof.Body.Frames
public import proofs.«01_k».proof.Proof.Value.Algebraic
public import proofs.«01_k».proof.Proof.Gen.ReferenceIdeal.Run
public import proofs.«01_k».proof.Proof.Gen.ReferenceIdeal.Read
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Mine.pre_facts,
  Cert.Mine.frame_bits, fun m g _ => Cert.KernelIdeal.Mine.frame m g, fun m g _ => Cert.KernelIdeal.Mine.frame m g,
  Cert.Mine.frame_reference, fun m g _ => Cert.Mine.frame_reference m g trivial, trivial,
  Cert.Mine.algebraic (hF := Cert.Mine.pre_facts)⟩

end Cert.Proof

end
